-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S4096x50 : Shape := ⟨2, ![4096, 50]⟩
abbrev S100000x128 : Shape := ⟨2, ![100000, 128]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S100000x128 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 100000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S100000x128 : Shape := ⟨2, ![100000, 128]⟩
abbrev S1x204800 : Shape := ⟨2, ![1, 204800]⟩
abbrev S204800x128 : Shape := ⟨2, ![204800, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩
abbrev S4096x50x128 : Shape := ⟨3, ![4096, 50, 128]⟩

abbrev nBuf : Table → Nat
  | .hbm => 5
  | .local .scVector .vmem => 2
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S1x204800, .i32⟩
  | .hbm, ⟨3, _⟩ => ⟨S204800x128, .f32⟩
  | .hbm, ⟨4, _⟩ => ⟨S4096x50x128, .f32⟩
  | .local .scVector .vmem, ⟨0, _⟩ => ⟨S2x1x256, .i32⟩
  | .local .scVector .vmem, ⟨1, _⟩ => ⟨S2x256x128, .f32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev main_v1_scv : Ref sig .scVector := ⟨.hbm, 3, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c25_i32_27_r0 : BitVec 32 := 25#32
  let v32_r0 : BitVec 32 := Scalar.addi c0_i32_26_r0 c25_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c24_i32_68_r0 : BitVec 32 := 24#32
  let v83_r0 : BitVec 1 := Scalar.cmpi .sge arg5_r0 c24_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v76_r0 : BitVec 32 := Scalar.addi v75_r0 v4
  let v145_r0 : BitVec 32 := Scalar.muli c256_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let v144_r0 : BitVec 32 := Scalar.muli c256_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c25_i32_62_r0 : BitVec 32 := 25#32
  let v74_r0 : BitVec 1 := Scalar.cmpi .eq v73_r0 c25_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c24_i32_55_r0 : BitVec 32 := 24#32
  let v65_r0 : BitVec 1 := Scalar.cmpi .eq arg5_r0 c24_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c24_i32_59_r0 : BitVec 32 := 24#32
  let v70_r0 : BitVec 32 := Scalar.select v69_r0 c24_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v71_r0 : BitVec 32 := Scalar.addi v70_r0 v4
  let v145_r0 : BitVec 32 := Scalar.muli c256_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x204800.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x204800.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S204800x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S204800x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x204800.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x204800.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S204800x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S204800x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c24_i32_33_r0 : BitVec 32 := 24#32
  let v37_r0 : BitVec 32 := Scalar.select v36_r0 c24_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c25_i32 : BitVec 32 := 25#32
  let v4 : BitVec 32 := Scalar.muli v3 c25_i32
  let v38_r0 : BitVec 32 := Scalar.addi v37_r0 v4
  let v55_r0 : BitVec 32 := Scalar.muli c256_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S204800x128.size a)
theorem k0_off19_inb : ∀ (i : grid0.Coords) (v33_4_r0 : BitVec 32) (k0_hw5 : k0_chk5 i v33_4_r0), ∀ a, (k0_off19 i v33_4_r0) a + S256x128.size a ≤ S204800x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S4096x50 : Shape := ⟨2, ![4096, 50]⟩
abbrev S100000x128 : Shape := ⟨2, ![100000, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S_, .i32⟩
  | .hbm, ⟨3, _⟩ => ⟨S4096x50, .i32⟩
  | .hbm, ⟨4, _⟩ => ⟨S4096x50, .i1⟩
  | .hbm, ⟨5, _⟩ => ⟨S_, .i32⟩
  | .hbm, ⟨6, _⟩ => ⟨S4096x50, .i32⟩
  | .hbm, ⟨7, _⟩ => ⟨S4096x50, .i32⟩
  | .hbm, ⟨8, _⟩ => ⟨S4096x50, .i32⟩
  | .hbm, ⟨9, _⟩ => ⟨S4096x50x1, .i32⟩
  | .hbm, ⟨10, _⟩ => ⟨S1, .i32⟩
  | .hbm, ⟨11, _⟩ => ⟨S_, .i32⟩
  | .hbm, ⟨12, _⟩ => ⟨S4096x50x1, .i32⟩
  | .hbm, ⟨13, _⟩ => ⟨S4096x50x1, .i1⟩
  | .hbm, ⟨14, _⟩ => ⟨S1x1x1, .i32⟩
  | .hbm, ⟨15, _⟩ => ⟨S4096x50x1, .i32⟩
  | .hbm, ⟨16, _⟩ => ⟨S4096x50x1, .i1⟩
  | .hbm, ⟨17, _⟩ => ⟨S4096x50x1, .i1⟩
  | .hbm, ⟨18, _⟩ => ⟨S_, .i1⟩
  | .hbm, ⟨19, _⟩ => ⟨S4096x50, .i1⟩
  | .hbm, ⟨20, _⟩ => ⟨S4096x50x128, .f32⟩
  | .hbm, ⟨21, _⟩ => ⟨S4096x50x128, .i1⟩
  | .hbm, ⟨22, _⟩ => ⟨S_, .f32⟩
  | .hbm, ⟨23, _⟩ => ⟨S4096x50x128, .f32⟩
  | .hbm, ⟨24, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Offsets.lean ====
/-
  The integer side of the kernel: where every copy of the double-buffered pipeline starts, which guards fire
  in which trip, and what the five carried words are. All are facts about 2 × 16 tiles and 25 trips, decided
  by the kernel over those ranges.
-/
module

public import proofs.«01_k».proof.Defs
public import proofs.«01_k».proof.Proof.Gen.KernelIdeal
public import proofs.«01_k».proof.Proof.Gen.KernelIdeal.Skeleton

@[expose] public section

noncomputable section

namespace Cert.KernelIdeal.Hand

open Cert.KernelIdeal Cert.KernelIdeal.Gen
open Idealize.ShloMosaic

/-- The grid coordinates of tile `b` of core `a`. -/
abbrev coordsV (a : Fin 2) (b : Fin 16) : grid0.Coords := fun
  | 0 => a
  | 1 => b
  | ⟨n + 2, h⟩ => absurd h (by show ¬ n + 2 < 2; omega)

/-- The first of a tile's 25 blocks of 256 rows. -/
def base (i : grid0.Coords) : ℕ := 25 * ((i 1).val + 16 * (i 0).val)

/-- There are 800 blocks in all. -/
theorem base_lt (i : grid0.Coords) : base i + 25 ≤ 800 := by
  have h0 : (i 0).val < 2 := (i 0).isLt
  have h1 : (i 1).val < 16 := (i 1).isLt
  unfold base; omega

/-- The same number as the program computes it. -/
abbrev baseW (i : grid0.Coords) : BitVec 32 :=
  Scalar.muli (Scalar.addi (Scalar.addi 0#32 (Scalar.muli (BitVec.ofNat 32 (i 1).val) 1#32)) (Scalar.muli (BitVec.ofNat 32 (i 0).val) 16#32)) 25#32

/-- The carried words before trip `t`: how many blocks were asked for, -/
abbrev c6 (t : ℕ) : BitVec 32 := BitVec.ofNat 32 (min (t + 1) 25)
/-- how many were awaited, -/
abbrev c7 (t : ℕ) : BitVec 32 := BitVec.ofNat 32 t
/-- how many blocks of results were drained, -/
abbrev c9 (t : ℕ) : BitVec 32 := BitVec.ofNat 32 (t - 1)
/-- and the trip's own block. -/
abbrev c10 (t : ℕ) : BitVec 32 := BitVec.ofNat 32 (t % 25)

/-- The five of them together. -/
abbrev carry (t : ℕ) : BitVec 32 × BitVec 32 × BitVec 32 × BitVec 32 × BitVec 32 := (c6 t, c7 t, c7 t, c9 t, c10 t)

/-- The loop makes 25 trips. -/
theorem trips_eq : k0_t1_loop.trips = 25 := by decide +kernel

set_option maxRecDepth 100000

/-! ## The offsets before and after the loop -/

/-- The first fetch fills the first slot, -/
theorem off1_eq : k0_off1 = ![0, 0, 0] := by decide +kernel
/-- signals that slot's semaphore, -/
theorem off3_eq : k0_off3 = ![0] := by decide +kernel
/-- and reads the tile's first block of indices. -/
theorem off2_eq (i : grid0.Coords) : k0_off2 i = ![0, 256 * base i] :=
  (by decide +kernel : ∀ i : grid0.Coords, k0_off2 i = ![0, 256 * base i]) i
/-- After the loop the tile's last block of rows is awaited, -/
theorem off19_eq (i : grid0.Coords) : k0_off19 i (c10 25) = ![256 * (base i + 24), 0] :=
  (by decide +kernel : ∀ i : grid0.Coords, k0_off19 i (c10 25) = ![256 * (base i + 24), 0]) i
/-- on the semaphore of the first slot, -/
theorem off20_eq : k0_off20 (c9 25) = ![0] := by decide +kernel
/-- from the first slot. -/
theorem off21_eq : k0_off21 (c9 25) = ![0, 0, 0] := by decide +kernel
/-- That last block lies in the result, -/
theorem chk5_holds (i : grid0.Coords) : k0_chk5 i (c10 25) :=
  (by decide +kernel : ∀ i : grid0.Coords, k0_chk5 i (c10 25)) i
/-- and its slot in the buffer. -/
theorem chk4_holds : k0_chk4 (c9 25) := by decide +kernel

/-! ## In trip `t`: the slots -/

/-- The next fetch fills the other slot of the indices, -/
theorem off4_eq (t : Fin k0_t1_loop.trips) : k0_off4 (c6 t) = ![(t.val + 1) % 2, 0, 0] := by revert t; decide +kernel
/-- and signals the other slot's semaphore. -/
theorem off6_eq (t : Fin k0_t1_loop.trips) : k0_off6 (c6 t) = ![(t.val + 1) % 2] := by revert t; decide +kernel
/-- The fetch awaited is the trip's own slot's, -/
theorem off7_eq (t : Fin k0_t1_loop.trips) : k0_off7 (c7 t) = ![t.val % 2, 0, 0] := by revert t; decide +kernel
/-- on the trip's own semaphore. -/
theorem off9_eq (t : Fin k0_t1_loop.trips) : k0_off9 (c7 t) = ![t.val % 2] := by revert t; decide +kernel
/-- The gather fills the trip's slot of the rows, -/
theorem off10_eq (t : Fin k0_t1_loop.trips) : k0_off10 (c7 t) = ![t.val % 2, 0, 0] := by revert t; decide +kernel
/-- and reads its list from the trip's slot of the indices. -/
theorem off11_eq (t : Fin k0_t1_loop.trips) : k0_off11 (c7 t) = ![t.val % 2, 0, 0] := by revert t; decide +kernel
/-- The store leaves from the trip's slot of the rows, -/
theorem off12_eq (t : Fin k0_t1_loop.trips) : k0_off12 (c7 t) = ![t.val % 2, 0, 0] := by revert t; decide +kernel
/-- and signals that slot's semaphore. -/
theorem off14_eq (t : Fin k0_t1_loop.trips) : k0_off14 (c7 t) = ![t.val % 2] := by revert t; decide +kernel
/-- The store awaited left from the other slot, -/
theorem off15_eq (t : Fin k0_t1_loop.trips) (h : 0 < t.val) : k0_off15 (c9 t) = ![(t.val + 1) % 2, 0, 0] := by revert t; decide +kernel
/-- on the other slot's semaphore. -/
theorem off17_eq (t : Fin k0_t1_loop.trips) (h : 0 < t.val) : k0_off17 (c9 t) = ![(t.val + 1) % 2] := by revert t; decide +kernel
/-- The slot of rows that the gather fills lies in its buffer, -/
theorem chk2_holds (t : Fin k0_t1_loop.trips) : k0_chk2 (c7 t) := by revert t; decide +kernel
/-- and so does the slot that holds its list. -/
theorem chk3_holds (t : Fin k0_t1_loop.trips) : k0_chk3 (c7 t) := by revert t; decide +kernel

/-! ## In trip `t`: the blocks, the guards, the checks -/

/-- The next fetch reads the next block of indices. -/
theorem off5_eq (i : grid0.Coords) (t : Fin k0_t1_loop.trips) (h : t.val < 24) : k0_off5 i (c10 t) = ![0, 256 * (base i + (t.val + 1))] :=
  (by decide +kernel : ∀ i : grid0.Coords, ∀ t : Fin k0_t1_loop.trips, t.val < 24 → k0_off5 i (c10 t) = ![0, 256 * (base i + (t.val + 1))]) i t h
/-- The fetch awaited is of the trip's own block. -/
theorem off8_eq (i : grid0.Coords) (t : Fin k0_t1_loop.trips) : k0_off8 i (c10 t) = ![0, 256 * (base i + t.val)] :=
  (by decide +kernel : ∀ i : grid0.Coords, ∀ t : Fin k0_t1_loop.trips, k0_off8 i (c10 t) = ![0, 256 * (base i + t.val)]) i t
/-- The store writes the trip's own block of rows. -/
theorem off13_eq (i : grid0.Coords) (t : Fin k0_t1_loop.trips) : k0_off13 i (c10 t) = ![256 * (base i + t.val), 0] :=
  (by decide +kernel : ∀ i : grid0.Coords, ∀ t : Fin k0_t1_loop.trips, k0_off13 i (c10 t) = ![256 * (base i + t.val), 0]) i t
/-- The store awaited is of the block before. -/
theorem off16_eq (i : grid0.Coords) (t : Fin k0_t1_loop.trips) (h : 0 < t.val) : k0_off16 i (c10 t) = ![256 * (base i + (t.val - 1)), 0] :=
  (by decide +kernel : ∀ i : grid0.Coords, ∀ t : Fin k0_t1_loop.trips, 0 < t.val → k0_off16 i (c10 t) = ![256 * (base i + (t.val - 1)), 0]) i t h
/-- Another block is asked for in every trip but the last. -/
theorem cond1_iff (i : grid0.Coords) (t : Fin k0_t1_loop.trips) : k0_cond1 i t (c10 t) = 1#1 ↔ t.val < 24 :=
  (by decide +kernel : ∀ i : grid0.Coords, ∀ t : Fin k0_t1_loop.trips, k0_cond1 i t (c10 t) = 1#1 ↔ t.val < 24) i t
/-- Every trip awaits its block of indices. -/
theorem cond2_holds (i : grid0.Coords) (t : Fin k0_t1_loop.trips) : k0_cond2 i t (c10 t) = 1#1 :=
  (by decide +kernel : ∀ i : grid0.Coords, ∀ t : Fin k0_t1_loop.trips, k0_cond2 i t (c10 t) = 1#1) i t
/-- Every trip stores its rows. -/
theorem cond5_holds (i : grid0.Coords) (t : Fin k0_t1_loop.trips) : k0_cond5 i t (c10 t) = 1#1 :=
  (by decide +kernel : ∀ i : grid0.Coords, ∀ t : Fin k0_t1_loop.trips, k0_cond5 i t (c10 t) = 1#1) i t
/-- Every trip but the first awaits the store before its own. -/
theorem cond7_iff (i : grid0.Coords) (t : Fin k0_t1_loop.trips) : k0_cond7 i t (c10 t) = 1#1 ↔ 0 < t.val :=
  (by decide +kernel : ∀ i : grid0.Coords, ∀ t : Fin k0_t1_loop.trips, k0_cond7 i t (c10 t) = 1#1 ↔ 0 < t.val) i t
/-- What the program checks of the carried words holds in every trip. -/
theorem chk1_holds (i : grid0.Coords) (t : Fin k0_t1_loop.trips) : k0_chk1 i t (c6 t) (c7 t) (c7 t) (c9 t) (c10 t) :=
  (by decide +kernel : ∀ i : grid0.Coords, ∀ t : Fin k0_t1_loop.trips, k0_chk1 i t (c6 t) (c7 t) (c7 t) (c9 t) (c10 t)) i t

/-! ## What a trip yields -/

/-- Whether the trip's block differs from the next, by the program's own words. -/
abbrev nextNe (i : grid0.Coords) (t : Fin k0_t1_loop.trips) : BitVec 1 :=
  Scalar.cmpi .ne (Scalar.addi (c10 t) (baseW i))
    (Scalar.addi (Scalar.select (Scalar.cmpi .eq (Scalar.select 1#1 (Scalar.addi (c10 t) 1#32) (c10 t)) 25#32) 0#32
      (Scalar.select 1#1 (Scalar.addi (c10 t) 1#32) (c10 t))) (baseW i))
/-- Whether it differs from the one before. -/
abbrev prevNe (i : grid0.Coords) (t : Fin k0_t1_loop.trips) : BitVec 1 :=
  Scalar.cmpi .ne (Scalar.addi (c10 t) (baseW i))
    (Scalar.addi (Scalar.select (Scalar.cmpi .eq (Scalar.select 1#1 (Scalar.subi (c10 t) 1#32) (c10 t)) 4294967295#32) 24#32
      (Scalar.select 1#1 (Scalar.subi (c10 t) 1#32) (c10 t))) (baseW i))

/-- The five words trip `t` yields, as the program computes them. -/
abbrev yields (i : grid0.Coords) (t : Fin k0_t1_loop.trips) : BitVec 32 × BitVec 32 × BitVec 32 × BitVec 32 × BitVec 32 :=
  (Scalar.select (Scalar.andi (Scalar.andi (nextNe i t) (Scalar.xori (Scalar.cmpi .sge (Scf.iv 0#32 1#32 t) 24#32) 1#1)) 1#1)
      (Scalar.addi (c6 t) 1#32) (c6 t),
    Scalar.select (Scalar.ori (nextNe i t) (Scalar.cmpi .eq (Scf.iv 0#32 1#32 t) 24#32)) (Scalar.addi (c7 t) 1#32) (c7 t),
    Scalar.select (Scalar.andi (Scalar.ori (nextNe i t) (Scalar.cmpi .eq (Scf.iv 0#32 1#32 t) 24#32)) 1#1) (Scalar.addi (c7 t) 1#32) (c7 t),
    Scalar.select (Scalar.andi (Scalar.andi (prevNe i t) (Scalar.xori (Scalar.cmpi .eq (Scf.iv 0#32 1#32 t) 0#32) 1#1)) 1#1)
      (Scalar.addi (c9 t) 1#32) (c9 t),
    Scalar.select (Scalar.cmpi .eq (Scalar.select 1#1 (Scalar.addi (c10 t) 1#32) (c10 t)) 25#32) 0#32
      (Scalar.select 1#1 (Scalar.addi (c10 t) 1#32) (c10 t)))

/-- They are the ones carried into trip `t + 1`. -/
theorem carry_step (i : grid0.Coords) (t : Fin k0_t1_loop.trips) : yields i t = carry (t.val + 1) :=
  (by decide +kernel : ∀ (i : grid0.Coords) (t : Fin k0_t1_loop.trips), yields i t = carry (t.val + 1)) i t

end Cert.KernelIdeal.Hand
-- ==== Proof.Views.lean ====
/-
  The buffers the tiles copy between, piece by piece: the two slots of each staging buffer, the blocks of 256
  indices and of 256 result rows, and what reading one of them gives.
-/
module

public import proofs.«01_k».proof.Proof.Offsets
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic

variable {F : FTy → Type}

/-! ## The pieces -/

/-- The table, the list of indices and the result, as a tile names them; a tile's two staging buffers. -/
abbrev tabV : Memref sig .scVector .hbm S100000x128 .f32 := Memref.whole main_arg1_scv
abbrev idxV : Memref sig .scVector .hbm S1x204800 .i32 := Memref.whole main_v0_scv
abbrev outV : Memref sig .scVector .hbm S204800x128 .f32 := Memref.whole main_v1_scv
abbrev inV : Memref sig .scVector .vmem S2x1x256 .i32 := Memref.whole cc0_scoped0
abbrev rowV : Memref sig .scVector .vmem S2x256x128 .f32 := Memref.whole cc0_scoped2

/-- Which of the two slots serves trip `t`. -/
def par (t : ℕ) : Fin 2 := ⟨t % 2, Nat.mod_lt _ (by decide)⟩

/-- Two trips on, the slot is the same. -/
theorem par_add_two (t : ℕ) : par (t + 2) = par t := Fin.ext (Nat.add_mod_right t 2)

/-- A slot lies in the buffer of indices, -/
theorem inb_in (p : Fin 2) : ∀ a, (![p.val, 0, 0] : Fin 3 → ℕ) a + S1x1x256.size a ≤ S2x1x256.size a := by revert p; decide
/-- and in the buffer of rows; -/
theorem inb_row (p : Fin 2) : ∀ a, (![p.val, 0, 0] : Fin 3 → ℕ) a + S1x256x128.size a ≤ S2x256x128.size a := by revert p; decide
/-- its semaphore is one of two. -/
theorem inb_sem (p : Fin 2) : ∀ a, (![p.val] : Fin 1 → ℕ) a + S1.size a ≤ S2.size a := by revert p; decide
/-- A block lies in the list of indices, -/
theorem inb_xb (n : ℕ) : ∀ a, (![0, 256 * (n % 800)] : Fin 2 → ℕ) a + S1x256.size a ≤ S1x204800.size a :=
  Fin.forall_fin_two.mpr ⟨by show 0 + 1 ≤ 1; omega, by show 256 * (n % 800) + 256 ≤ 204800; omega⟩
/-- and in the result. -/
theorem inb_ob (n : ℕ) : ∀ a, (![256 * (n % 800), 0] : Fin 2 → ℕ) a + S256x128.size a ≤ S204800x128.size a :=
  Fin.forall_fin_two.mpr ⟨by show 256 * (n % 800) + 256 ≤ 204800; omega, by show 0 + 128 ≤ 128; omega⟩

/-- Slot `p` of the staged indices, -/
abbrev inSlot (p : Fin 2) : Memref sig .scVector .vmem S1x256 .i32 :=
  ((inV).slice (Rect.unit (s := S2x1x256) ![p.val, 0, 0] S1x1x256.size (inb_in p)) (fun _ => rfl)).squeeze S1x256 squeezes_S1x1x256_S1x256
/-- as the list of 256 the gather takes, -/
abbrev listSlot (p : Fin 2) : Memref sig .scVector .vmem S256 .i32 :=
  ((inSlot p).slice (Rect.unit (s := S1x256) ![0, 0] S1x256.size inb_S1x256_S1x256_0_0) (fun _ => rfl)).squeeze S256 squeezes_S1x256_S256
/-- slot `p` of the gathered rows, -/
abbrev rowSlot (p : Fin 2) : Memref sig .scVector .vmem S256x128 .f32 :=
  ((rowV).slice (Rect.unit (s := S2x256x128) ![p.val, 0, 0] S1x256x128.size (inb_row p)) (fun _ => rfl)).squeeze S256x128 squeezes_S1x256x128_S256x128
/-- the whole table, as the gather takes it, -/
abbrev tabAll : Memref sig .scVector .hbm S100000x128 .f32 :=
  (tabV).slice (Rect.unit (s := S100000x128) ![0, 0] S100000x128.size inb_S100000x128_S100000x128_0_0) (fun _ => rfl)
/-- block `n` of the indices, -/
abbrev idxBlk (n : ℕ) : Memref sig .scVector .hbm S1x256 .i32 :=
  (idxV).slice (Rect.unit (s := S1x204800) ![0, 256 * (n % 800)] S1x256.size (inb_xb n)) (fun _ => rfl)
/-- block `n` of the result, -/
abbrev outBlk (n : ℕ) : Memref sig .scVector .hbm S256x128 .f32 :=
  (outV).slice (Rect.unit (s := S204800x128) ![256 * (n % 800), 0] S256x128.size (inb_ob n)) (fun _ => rfl)
/-- and the semaphores of the two slots. -/
abbrev semAt (A : DmaSems sig S2) (p : Fin 2) : DmaSem sig :=
  ((A.slice (Rect.unit (s := S2) ![p.val] S1.size (inb_sem p))).squeeze S_ squeezes_S1_S_).sem
abbrev inSem (p : Fin 2) : DmaSem sig := semAt cc0_scoped1 p
abbrev rowSem (p : Fin 2) : DmaSem sig := semAt cc0_scoped3 p
abbrev gSem : DmaSem sig := cc0_scoped4.sem

/-! ## A printed slice at the same offsets is the piece -/

/-- A slot of the indices, -/
theorem inSlot_eq {off : Fin 3 → ℕ} (p : Fin 2) (h : off = ![p.val, 0, 0]) (inb : ∀ a, off a + S1x1x256.size a ≤ S2x1x256.size a) :
    ((inV).slice (Rect.unit (s := S2x1x256) off S1x1x256.size inb) (fun _ => rfl)).squeeze S1x256 squeezes_S1x1x256_S1x256 = inSlot p := by
  subst h; rfl
/-- a slot as a list, -/
theorem listSlot_eq {off : Fin 3 → ℕ} (p : Fin 2) (h : off = ![p.val, 0, 0]) (inb : ∀ a, off a + S1x1x256.size a ≤ S2x1x256.size a) :
    ((((inV).slice (Rect.unit (s := S2x1x256) off S1x1x256.size inb) (fun _ => rfl)).squeeze S1x256 squeezes_S1x1x256_S1x256).slice
      (Rect.unit (s := S1x256) ![0, 0] S1x256.size inb_S1x256_S1x256_0_0) (fun _ => rfl)).squeeze S256 squeezes_S1x256_S256 = listSlot p := by
  subst h; rfl
/-- a slot of the rows, -/
theorem rowSlot_eq {off : Fin 3 → ℕ} (p : Fin 2) (h : off = ![p.val, 0, 0]) (inb : ∀ a, off a + S1x256x128.size a ≤ S2x256x128.size a) :
    ((rowV).slice (Rect.unit (s := S2x256x128) off S1x256x128.size inb) (fun _ => rfl)).squeeze S256x128 squeezes_S1x256x128_S256x128 = rowSlot p := by
  subst h; rfl
/-- a block of the indices, -/
theorem idxBlk_eq {off : Fin 2 → ℕ} {n : ℕ} (hn : n < 800) (h : off = ![0, 256 * n]) (inb : ∀ a, off a + S1x256.size a ≤ S1x204800.size a) :
    (idxV).slice (Rect.unit (s := S1x204800) off S1x256.size inb) (fun _ => rfl) = idxBlk n := by
  have h' : off = ![0, 256 * (n % 800)] := by rw [Nat.mod_eq_of_lt hn]; exact h
  subst h'; rfl
/-- a block of the result, -/
theorem outBlk_eq {off : Fin 2 → ℕ} {n : ℕ} (hn : n < 800) (h : off = ![256 * n, 0]) (inb : ∀ a, off a + S256x128.size a ≤ S204800x128.size a) :
    (outV).slice (Rect.unit (s := S204800x128) off S256x128.size inb) (fun _ => rfl) = outBlk n := by
  have h' : off = ![256 * (n % 800), 0] := by rw [Nat.mod_eq_of_lt hn]; exact h
  subst h'; rfl
/-- and a slot's semaphore. -/
theorem sem_eq (A : DmaSems sig S2) {off : Fin 1 → ℕ} (p : Fin 2) (h : off = ![p.val]) (inb : ∀ a, off a + S1.size a ≤ S2.size a) :
    ((A.slice (Rect.unit (s := S2) off S1.size inb)).squeeze S_ squeezes_S1_S_).sem = semAt A p := by
  subst h; rfl

/-! ## Element sets -/

/-- The rows `a ≤ r < b` of the result. -/
def rowSet (a b : ℕ) : Finset S204800x128.Idx := Finset.univ.filter fun x => a ≤ (x 0).val ∧ (x 0).val < b

/-- An element is in the range if its row is. -/
theorem mem_rowSet {a b : ℕ} {x : S204800x128.Idx} : x ∈ rowSet a b ↔ a ≤ (x 0).val ∧ (x 0).val < b := by simp [rowSet]

/-- Block `n` of the result is its 256 rows. -/
theorem outBlk_set {n : ℕ} (hn : n < 800) : (outBlk n).view.set = rowSet (256 * n) (256 * (n + 1)) := by
  show ((outV).view.slice _).set = _
  rw [show ((outV).view.slice (Rect.unit (s := S204800x128) ![256 * (n % 800), 0] S256x128.size (inb_ob n))).set
    = (Rect.unit (s := S204800x128) ![256 * (n % 800), 0] S256x128.size (inb_ob n)).set from View.set_slice_whole _ _]
  ext x
  rw [Rect.mem_set_unit, mem_rowSet, Nat.mod_eq_of_lt hn]
  constructor
  · intro h
    have h0 : 256 * n ≤ (x 0).val ∧ (x 0).val < 256 * n + 256 := h 0
    omega
  · rintro ⟨h1, h2⟩
    refine Fin.forall_fin_two.mpr ⟨?_, ?_⟩
    · show 256 * n ≤ (x 0).val ∧ (x 0).val < 256 * n + 256
      omega
    · have : (x 1).val < 128 := (x 1).isLt
      show 0 ≤ (x 1).val ∧ (x 1).val < 0 + 128
      omega

/-- Taking the first rows off leaves the rest; -/
theorem rowSet_sdiff_low {a b c : ℕ} (h : a ≤ b) : rowSet a c \ rowSet a b = rowSet b c := by
  ext x; simp only [Finset.mem_sdiff, mem_rowSet]; omega
/-- so does taking the last rows off. -/
theorem rowSet_sdiff_high {a b c : ℕ} (h : b ≤ c) : rowSet a c \ rowSet b c = rowSet a b := by
  ext x; simp only [Finset.mem_sdiff, mem_rowSet]; omega
/-- A range within a range. -/
theorem rowSet_subset {a b c d : ℕ} (h : c ≤ a) (h' : b ≤ d) : rowSet a b ⊆ rowSet c d := by
  intro x; simp only [mem_rowSet]; omega
/-- No row is in an empty range. -/
theorem rowSet_self (a : ℕ) : rowSet a a = ∅ := by
  ext x; simp only [mem_rowSet, Finset.notMem_empty, iff_false]; omega
/-- Ranges one after the other share no row. -/
theorem rowSet_disjoint {a b c d : ℕ} (h : b ≤ c ∨ d ≤ a) : Disjoint (rowSet a b) (rowSet c d) := by
  rw [Finset.disjoint_left]; intro x; simp only [mem_rowSet]; omega

/-- The list's elements are its slot's. -/
theorem listSlot_set (p : Fin 2) : (listSlot p).view.set = (inSlot p).view.set := by
  show (((inSlot p).view.slice _).reshape S256 _).set = _
  rw [View.set_reshape]
  ext x
  constructor
  · intro hx; exact View.set_slice_subset _ _ hx
  · intro hx
    obtain ⟨y, -, rfl⟩ := Finset.mem_map.mp hx
    rw [View.set_slice]
    refine Finset.mem_map.mpr ⟨y, ?_, rfl⟩
    rw [Rect.mem_set_unit]
    refine Fin.forall_fin_two.mpr ⟨?_, ?_⟩
    · have : (y 0).val < 1 := (y 0).isLt
      show 0 ≤ (y 0).val ∧ (y 0).val < 0 + 1
      omega
    · have : (y 1).val < 256 := (y 1).isLt
      show 0 ≤ (y 1).val ∧ (y 1).val < 0 + 256
      omega

/-- The table is read whole. -/
theorem tabAll_set : (tabAll).view.set = Finset.univ := by
  show ((tabV).view.slice _).set = _
  rw [show ((tabV).view.slice (Rect.unit (s := S100000x128) ![0, 0] S100000x128.size inb_S100000x128_S100000x128_0_0)).set
    = (Rect.unit (s := S100000x128) ![0, 0] S100000x128.size inb_S100000x128_S100000x128_0_0).set from View.set_slice_whole _ _]
  ext x
  rw [Rect.mem_set_unit]
  refine iff_of_true (Fin.forall_fin_two.mpr ⟨?_, ?_⟩) (Finset.mem_univ x)
  · have : (x 0).val < 100000 := (x 0).isLt
    show 0 ≤ (x 0).val ∧ (x 0).val < 0 + 100000
    omega
  · have : (x 1).val < 128 := (x 1).isLt
    show 0 ≤ (x 1).val ∧ (x 1).val < 0 + 128
    omega

/-! ## The value -/

/-- The row of the table an index word names. -/
def tabRow (w : BitVec 32) : Fin 100000 := if h : w.toNat < 100000 then ⟨w.toNat, h⟩ else 0

/-- An index in range names the row of its own number. -/
theorem tabRow_val {w : BitVec 32} (h : w.toNat < 100000) : (tabRow w).val = w.toNat := by
  unfold tabRow; rw [dif_pos h]

/-- The lookup, row by row: row `r` of the result is the row of the table that index `r` names. -/
def lookup (X : S1x204800.Idx → Elt F .i32) (T : S100000x128.Idx → Elt F .f32) : S204800x128.Idx → Elt F .f32 := fun y =>
  T (Shape.pair (d := ![100000, 128]) (tabRow (X (Shape.pair (d := ![1, 204800]) (0 : Fin 1) (y 0)))) (y 1))

/-- What block `n` of the indices holds. -/
theorem idxBlk_read {n : ℕ} (hn : n < 800) (X : S1x204800.Idx → Elt F .i32) (z : S1x256.Idx) :
    (idxBlk n).view.read (Elt F) X z
      = X (Shape.pair (d := ![1, 204800]) (0 : Fin 1) ⟨256 * n + (z 1).val, by have : (z 1).val < 256 := (z 1).isLt; show _ < 204800; omega⟩) := by
  rw [View.read_apply]
  refine (cast_eq _ _).trans (congrArg X ?_)
  funext a
  apply Fin.ext
  match a with
  | 0 =>
    have h0 : (z 0).val < 1 := (z 0).isLt
    show 0 + 1 * (z 0).val = 0
    omega
  | 1 =>
    show 256 * (n % 800) + 1 * (z 1).val = 256 * n + (z 1).val
    rw [Nat.mod_eq_of_lt hn]; omega

/-- What block `n` of the result holds. -/
theorem outBlk_read {n : ℕ} (hn : n < 800) (R : S204800x128.Idx → Elt F .f32) (z : S256x128.Idx) :
    (outBlk n).view.read (Elt F) R z
      = R (Shape.pair (d := ![204800, 128]) ⟨256 * n + (z 0).val, by have : (z 0).val < 256 := (z 0).isLt; show _ < 204800; omega⟩ (z 1)) := by
  rw [View.read_apply]
  refine (cast_eq _ _).trans (congrArg R ?_)
  funext a
  apply Fin.ext
  match a with
  | 0 =>
    show 256 * (n % 800) + 1 * (z 0).val = 256 * n + (z 0).val
    rw [Nat.mod_eq_of_lt hn]; omega
  | 1 =>
    show 0 + 1 * (z 1).val = (z 1).val
    omega

/-- The list's index at position `k`. -/
def entry (k : Fin 256) : S256.Idx := fun | 0 => k

/-- Entry `k` of the list is index `k` of the slot. -/
theorem listSlot_read (p : Fin 2) (f : (inV).view.ty.Contents (Elt F)) (k : S256.Idx) :
    (listSlot p).view.read (Elt F) f k = (inSlot p).view.read (Elt F) f (Shape.pair (d := ![1, 256]) (0 : Fin 1) (k 0)) := by
  rw [View.read_apply, View.read_apply]
  have e : (listSlot p).view.emb k = (inSlot p).view.emb (Shape.pair (d := ![1, 256]) (0 : Fin 1) (k 0)) := by
    show (inSlot p).view.emb _ = _
    congr 1
    have e1 : Shape.reshapeEquiv squeezes_S1x256_S256.numel_eq k = (Shape.pair (d := ![1, 256]) (0 : Fin 1) (k 0) : S1x256.Idx) := by
      refine Shape.reshapeEquiv_eq_of_rowMajor _ ?_
      refine (Shape.rowMajor_pair_val (d := ![1, 256]) (0 : Fin 1) (k 0)).trans (Eq.trans ?_ (Shape.rowMajor_val_one k).symm)
      show 0 * 256 + (k 0).val = (k 0).val
      omega
    show (Rect.unit (s := S1x256) ![0, 0] S1x256.size inb_S1x256_S1x256_0_0).emb (Shape.reshapeEquiv squeezes_S1x256_S256.numel_eq k) = _
    rw [e1]
    funext a
    apply Fin.ext
    match a with
    | 0 => show 0 + 1 * 0 = 0; rfl
    | 1 => show 0 + 1 * (k 0).val = (k 0).val; omega
  rw [e]

/-- The table as the gather reads it is the table. -/
theorem tabAll_read (T : S100000x128.Idx → Elt F .f32) : (tabAll).view.read (Elt F) T = T := by
  funext z
  rw [View.read_apply]
  refine (cast_eq _ _).trans (congrArg T ?_)
  funext a
  apply Fin.ext
  match a with
  | 0 => show 0 + 1 * (z 0).val = (z 0).val; omega
  | 1 => show 0 + 1 * (z 1).val = (z 1).val; omega

/-- The gather's rows: with block `n`'s indices in slot `p`, all in range, the gather writes block `n` of the lookup. -/
theorem gather_eq {n : ℕ} (hn : n < 800) (p : Fin 2) (X : S1x204800.Idx → Elt F .i32) (T : S100000x128.Idx → Elt F .f32)
    (f : (inV).view.ty.Contents (Elt F)) (hf : (inSlot p).view.read (Elt F) f = (idxBlk n).view.read (Elt F) X)
    (hnn : S256.numel = S256x128.size gathers_S100000x128_S256x128.axis')
    (hin : ∀ x, ((listSlot p).view.read (Elt F) f x).toNat < S100000x128.size gathers_S100000x128_S256x128.axis) :
    SparseCore.gatherPayload gathers_S100000x128_S256x128 ((tabAll).view.read (Elt F) T)
        (SparseCore.rows ((listSlot p).view.read (Elt F) f) hnn hin)
      = (outBlk n).view.read (Elt F) (lookup X T) := by
  funext z
  rw [outBlk_read hn, tabAll_read]
  unfold SparseCore.gatherPayload lookup
  congr 1
  funext a
  apply Fin.ext
  match a with
  | 0 =>
    have hk : S256.rowMajor.symm (Fin.cast hnn.symm (z gathers_S100000x128_S256x128.axis')) = (entry (z 0)) := by
      rw [Equiv.symm_apply_eq]
      apply Fin.ext
      rw [Shape.rowMajor_val_one]; rfl
    have hv : (listSlot p).view.read (Elt F) f (entry (z 0))
        = X (Shape.pair (d := ![1, 204800]) (0 : Fin 1) ⟨256 * n + (z 0).val, by have : (z 0).val < 256 := (z 0).isLt; show _ < 204800; omega⟩) := by
      rw [listSlot_read, hf, idxBlk_read hn]; rfl
    have hlt := hin (entry (z 0))
    have e := congrArg Fin.val (Shape.Gathers.idx_axis gathers_S100000x128_S256x128
      (SparseCore.rows ((listSlot p).view.read (Elt F) f) hnn hin) z)
    refine e.trans ?_
    show ((listSlot p).view.read (Elt F) f (S256.rowMajor.symm (Fin.cast hnn.symm (z gathers_S100000x128_S256x128.axis')))).toNat = _
    rw [hk]
    rw [hv] at hlt ⊢
    exact (tabRow_val hlt).symm
  | 1 =>
    exact Shape.Gathers.idx_of_ne gathers_S100000x128_S256x128 _ z 1 (by decide)

end Cert.KernelIdeal.Hand
-- ==== Proof.Steps.lean ====
/-
  What a tile holds while the pipeline runs, and what each of its six kinds of step does to that: asking for a
  block of indices, awaiting it, gathering the rows it names, storing them, awaiting the store.
-/
module

public import proofs.«01_k».proof.Proof.Views

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The list of indices, the table and the rows of the result, in device memory. -/
abbrev idxLoc (d : Dev nD) : Loc nD τ sig := (SparseCore.T d).loc main_v0
abbrev tabLoc (d : Dev nD) : Loc nD τ sig := (SparseCore.T d).loc main_arg1
abbrev outLoc (d : Dev nD) : Loc nD τ sig := (SparseCore.T d).loc main_v1

abbrev cV (L : grid0.Coords) : Fin τ.nSC := (L 0).castLE hcore0
abbrev jV (L : grid0.Coords) : Fin τ.nSub := (L 1).castLE hsub0

/-- The tile's thread. -/
abbrev thr (d : Dev nD) (L : grid0.Coords) : Thread nD τ := V d (cV L) (jV L)

variable [FloatOps F]

section Tile

variable (d : Dev nD) (L : grid0.Coords) (q : PosShare TreeShare)
variable (X : S1x204800.Idx → Elt F .i32) (T : S100000x128.Idx → Elt F .f32)

/-- Each slot's fetches read the indices at their own half of the tile's share. -/
def slotQ (q : PosShare TreeShare) (p : Fin 2) : PosShare TreeShare := if p = 0 then q.left else q.right

/-- Slot `p` of the staged indices at contents `f`, slot `p` of the gathered rows at contents `g`. -/
abbrev inPts (p : Fin 2) (f : Buf (Elt F) ((inV).view.loc (thr d L))) : sProp 𝕄 :=
  (inSlot p).view.loc (thr d L) ↦[(inSlot p).view.set]{fullShare} f
abbrev rowPts (p : Fin 2) (g : Buf (Elt F) ((rowV).view.loc (thr d L))) : sProp 𝕄 :=
  (rowSlot p).view.loc (thr d L) ↦[(rowSlot p).view.set]{fullShare} g

/-- Slot `p` of the staged indices idle: its contents whatever they are, its semaphore at zero, its half of the share. -/
def inFree (p : Fin 2) : sProp 𝕄 :=
  iprop((∃ f, inPts (F := F) d L p f) ∗ semVal (thr d L, .dma (inSem p)) 0 ∗ idxLoc d ↦{slotQ q p} X)
/-- Slot `p` holding block `n` of the indices. -/
def inGot (n : ℕ) (p : Fin 2) : sProp 𝕄 :=
  iprop(∃ f, ⌜(inSlot p).view.read (Elt F) f = (idxBlk n).view.read (Elt F) X⌝ ∗ inPts (F := F) d L p f)
/-- Block `n` of the indices on its way into slot `p`. -/
def inFly (n : ℕ) (p : Fin 2) : sProp 𝕄 :=
  iprop(Transfers.Flight countersEmb (thr d L) (.dma (inSem p)) (default : HIx 1) (inSlot p).view.dmaCredit
      iprop(inGot d L X n p ∗ idxLoc d ↦[(idxBlk n).view.set]{slotQ q p} X)
    ∗ idxLoc d ↦[Finset.univ \ (idxBlk n).view.set]{slotQ q p} X)

/-- Slot `p` of the gathered rows idle. -/
def rowFree (p : Fin 2) : sProp 𝕄 :=
  iprop((∃ f, rowPts (F := F) d L p f) ∗ semVal (thr d L, .dma (rowSem p)) 0)
/-- Slot `p` holding block `n` of the lookup, its semaphore at zero. -/
def rowGot (n : ℕ) (p : Fin 2) : sProp 𝕄 :=
  iprop((∃ f, ⌜(rowSlot p).view.read (Elt F) f = (outBlk n).view.read (Elt F) (lookup X T)⌝ ∗ rowPts (F := F) d L p f)
    ∗ semVal (thr d L, .dma (rowSem p)) 0)
/-- Block `n` of the lookup on its way out of slot `p`. -/
def rowFly (n : ℕ) (p : Fin 2) : sProp 𝕄 :=
  Transfers.Flight countersEmb (thr d L) (.dma (rowSem p)) (default : HIx 1) (outBlk n).view.dmaCredit
    iprop((outLoc d ↦[(outBlk n).view.set]{fullShare} (lookup X T : S204800x128.Idx → Elt F .f32)) ∗ ∃ f, rowPts (F := F) d L p f)

/-- What the tile owes: `O`, the waits since `W` being of its own copies. -/
def owed (O : CellTallies nD τ sig (HIx 1)) (W : Waits sig (HIx 1)) : sProp 𝕄 :=
  iprop(∃ W', ⌜∀ p ∈ W', p ∈ W ∨ p.2 = none⌝ ∗ owes (thr d L) O W')

variable {d L q X T}
variable {O : CellTallies nD τ sig (HIx 1)} {W : Waits sig (HIx 1)}
variable {α : Type} {Q : α → sProp (MT nD τ sig (HIx 1) (Elt F) ℕ UU ℕ)}

/-- One more wait of the tile's own. -/
theorem owed_insert {W' : Waits sig (HIx 1)} (s : SemLoc sig) (h : ∀ p ∈ W', p ∈ W ∨ p.2 = none) :
    (owes (thr d L) O (insert (s, (default : HIx 1)) W') : sProp 𝕄) ⊢ iprop(∃ W', ⌜∀ p ∈ W', p ∈ W ∨ p.2 = none⌝ ∗ owes (thr d L) O W') := by
  iintro HO
  iexists _; isplitr
  swap; · iexact HO
  ipureintro; intro p hp
  rcases Finset.mem_insert.mp hp with hp | hp
  · exact .inr (hp ▸ rfl)
  · exact h p hp

set_option maxHeartbeats 1000000 in
/-- Asking for block `n` of the indices: the idle slot's fetch is under way. -/
theorem step_fetch {n : ℕ} {p : Fin 2} {src : Memref sig .scVector .hbm S1x256 .i32} {dst : Memref sig .scVector .vmem S1x256 .i32}
    {sem : DmaSem sig} (hs : src = idxBlk n) (hd : dst = inSlot p) (hsem : sem = inSem p)
    {h₁ : src.view.WordExact} {h₂ : dst.view.WordExact} {h₃ : DmaTarget.Typed (nD := nD) (τ := τ) (p := (thr d L).2) .hbm (.dma sem) (.here dst)}
    {k : PUnit → Prog (TpuEff nD τ sig (Elt F) Λ₀ (thr d L).2) α} :
    inFree d L q X p ⊢ iprop((inFly d L q X n p -∗ wp frame (wpE (defs₀ (F := F)) 𝒱₀ (thr d L) none) Set.univ (k ⟨⟩) Q)
      -∗ wp frame (wpE (defs₀ (F := F)) 𝒱₀ (thr d L) none) Set.univ (.op (.enqueueDma src (.here dst) (.dma sem) h₁ h₂ h₃) k) Q) := by
  subst hs hd hsem
  unfold inFree inFly
  iintro ⟨⟨%f, Hf⟩, Hsem, Hx⟩ Hk
  ihave Hx := (pointsTo_split_subset (ℓ := idxLoc d) (q := slotQ q p) (f := X) (S := Finset.univ)
    (Finset.subset_univ (idxBlk n).view.set)).1 $$ Hx
  icases Hx with ⟨Hx, Hrest⟩
  iapply (Transfers.wp_dmaLocal countersEmb 𝒱₀ (thr d L) none (src := idxBlk n) (dst := inSlot p) (via := .same) (sm := .dma (inSem p))
    (q := slotQ q p) (fs := X) (fd := f) (default : HIx 1)
    (inSlot p).view.dmaCredit rfl (View.dmaCredit_pos _ (by decide)) (Finset.Subset.refl (inSlot p).view.set)) $$ [Hx Hf Hsem]
  · isplitl [Hx]; · iexact Hx
    isplitl [Hf]; · iexact Hf
    iexact Hsem
  iintro Hfl
  iapply Hk
  isplitl [Hfl]
  · iapply (Transfers.Flight_mono countersEmb (thr d L) ?_) $$ Hfl
    unfold inGot
    iintro ⟨Hf, Hx⟩
    isplitl [Hf]
    · iexists _; isplitr
      swap; · iexact Hf
      ipureintro
      exact View.read_write_univ _ _
    · iexact Hx
  · iexact Hrest

set_option maxHeartbeats 1000000 in
/-- Awaiting block `n` of the indices: the slot holds it, semaphore and share are back. -/
theorem step_fetched {n : ℕ} {p : Fin 2} {src : Memref sig .scVector .hbm S1x256 .i32} {dst : Memref sig .scVector .vmem S1x256 .i32}
    {sem : DmaSem sig} (hd : dst = inSlot p) (hsem : sem = inSem p)
    {h₁ : src.view.WordExact} {h₂ : dst.view.WordExact}
    {k : PUnit → Prog (TpuEff nD τ sig (Elt F) Λ₀ (thr d L).2) α} :
    iprop(inFly d L q X n p ∗ owed d L O W ∗ Transfers.MayWaits (thr d L) (default : HIx 1) O)
      ⊢ iprop((iprop(inGot d L X n p ∗ semVal (thr d L, .dma (inSem p)) 0 ∗ (idxLoc d ↦{slotQ q p} X) ∗ owed d L O W)
          -∗ wp frame (wpE (defs₀ (F := F)) 𝒱₀ (thr d L) none) Set.univ (k ⟨⟩) Q)
        -∗ wp frame (wpE (defs₀ (F := F)) 𝒱₀ (thr d L) none) Set.univ (.op (.waitDma2 sem src dst h₁ h₂) k) Q) := by
  subst hd hsem
  unfold inFly
  unfold owed
  iintro ⟨⟨Hfl, Hrest⟩, ⟨%W', %hW', HO⟩, Hmw⟩ Hk
  iapply (Transfers.wp_waitLocalO countersEmb 𝒱₀ (thr d L) none (default : HIx 1) (rfl : (inSlot p).view.dmaCredit = _)) $$ [Hfl HO Hmw]
  · isplitl [Hfl]; · iexact Hfl
    isplitl [HO]; · iexact HO
    iapply (Transfers.MayWaits.elim (SemLoc.dma (inSem p))) $$ Hmw
  iintro ⟨⟨Hgot, Hx⟩, Hsem, HO⟩
  iapply Hk
  isplitl [Hgot]; · iexact Hgot
  isplitl [Hsem]; · iexact Hsem
  isplitl [Hx Hrest]
  · iapply (pointsTo_split_subset (ℓ := idxLoc d) (q := slotQ q p) (f := X) (S := Finset.univ) (Finset.subset_univ (idxBlk n).view.set)).2
    isplitl [Hx] <;> iassumption
  · iapply (owed_insert _ hW') $$ HO

set_option maxHeartbeats 2000000 in
/-- The gather and its wait: with block `n`'s indices in slot `p`, slot `p` of the rows comes to hold block `n` of the
    lookup; the indices' slot is idle again. -/
theorem step_gather (hX : ∀ j, (X j : BitVec 32).toNat < 100000) {n : ℕ} (hn : n < 800) {p : Fin 2}
    {src src' : Memref sig .scVector .hbm S100000x128 .f32} {dst dst' : Memref sig .scVector .vmem S256x128 .f32}
    {offs : Memref sig .scVector .vmem S256 .i32}
    (hs : src = tabAll) (hd : dst = rowSlot p) (hd' : dst' = rowSlot p) (ho : offs = listSlot p)
    {hnn : S256.numel = S256x128.size gathers_S100000x128_S256x128.axis'}
    {hp : (thr d L).2.kind = .scVector} {hsrc : src.view.WordExact} {he : EltTy.f32.bits = 32} {hsp : Space.hbm = .hbm ∨ Space.hbm = .shared}
    {hr : S100000x128.StreamRows 0} {h₁ : src'.view.WordExact} {h₂ : dst'.view.WordExact}
    {k : PUnit → Prog (TpuEff nD τ sig (Elt F) Λ₀ (thr d L).2) α} :
    iprop(inGot d L X n p ∗ semVal (thr d L, .dma (inSem p)) 0 ∗ (idxLoc d ↦{slotQ q p} X) ∗ rowFree d L p
        ∗ (tabLoc d ↦{q} T) ∗ semVal (thr d L, .dma gSem) 0 ∗ owed d L O W ∗ Transfers.MayWaits (thr d L) (default : HIx 1) O)
      ⊢ iprop((iprop(inFree d L q X p ∗ rowGot d L X T n p ∗ (tabLoc d ↦{q} T) ∗ semVal (thr d L, .dma gSem) 0 ∗ owed d L O W)
          -∗ wp frame (wpE (defs₀ (F := F)) 𝒱₀ (thr d L) none) Set.univ (k ⟨⟩) Q)
        -∗ wp frame (wpE (defs₀ (F := F)) 𝒱₀ (thr d L) none) Set.univ
            (SparseCore.enqueueIndirectGather hp src dst gathers_S100000x128_S256x128 offs hnn gSem hsrc he hsp hr >>= fun _ =>
              SparseCore.waitIndirectGather gSem src' dst' h₁ h₂ >>= k) Q) := by
  subst hs hd hd' ho
  unfold inGot rowFree
  unfold owed
  iintro ⟨⟨%f, %hf, Hf⟩, Hsi, Hx, ⟨⟨%g, Hg⟩, Hsr⟩, Ht, Hsg, ⟨%W', %hW', HO⟩, Hmw⟩ Hk
  have hin : ∀ x, ((listSlot p).view.read (Elt F) f x).toNat < S100000x128.size gathers_S100000x128_S256x128.axis := by
    intro x
    rw [listSlot_read, hf, idxBlk_read hn]
    exact hX _
  have hN : ∀ h : S100000x128.Gathers 0 S256x128, ∑ j, ((rowSlot p).slice (S256x128.rowRect h.axis' j) (S256x128.stride_rowRect h.axis' j)).view.dmaCredit
      = (rowSlot p).view.dmaCredit :=
    fun h => SparseCore.sum_rowCredit_eq_dmaCredit (rowSlot p) h.axis' (fun _ => rfl)
  ihave Ht := (Entails.of_eq (show (tabLoc d ↦{q} T : sProp 𝕄) = (tabAll).view.loc (thr d L) ↦[(tabAll).view.set]{q} T by rw [tabAll_set])) $$ Ht
  ihave Hf := (Entails.of_eq (show (inPts d L p f : sProp 𝕄) = (listSlot p).view.loc (thr d L) ↦[(listSlot p).view.set]{fullShare} f by rw [listSlot_set])) $$ Hf
  iapply (SparseCore.wp_indirectGatherLocal countersEmb 𝒱₀ (thr d L) none (hg := gathers_S100000x128_S256x128) (default : HIx 1)
      (rowSlot p).view.dmaCredit (hN _) (by decide) hin) $$ [Ht Hg Hf Hsg]
  · isplitl [Ht]; · iexact Ht
    isplitl [Hg]; · iexact Hg
    isplitl [Hf]; · iexact Hf
    iexact Hsg
  iintro Hfl
  iapply (Transfers.wp_waitLocalO countersEmb 𝒱₀ (thr d L) none (default : HIx 1) (rfl : (rowSlot p).view.dmaCredit = _)) $$ [Hfl HO Hmw]
  · isplitl [Hfl]; · iexact Hfl
    isplitl [HO]; · iexact HO
    iapply (Transfers.MayWaits.elim (SemLoc.dma gSem)) $$ Hmw
  iintro ⟨⟨Hg, Ht, Hf⟩, Hsg, HO⟩
  iapply Hk
  isplitl [Hf Hsi Hx]
  · unfold inFree
    isplitl [Hf]
    · iexists f
      iapply (Entails.of_eq (show (inPts d L p f : sProp 𝕄) = (listSlot p).view.loc (thr d L) ↦[(listSlot p).view.set]{fullShare} f by rw [listSlot_set]).symm) $$ Hf
    isplitl [Hsi] <;> iassumption
  isplitl [Hg Hsr]
  · unfold rowGot
    isplitl [Hg]
    · iexists _; isplitr
      swap; · iexact Hg
      ipureintro
      rw [View.read_write_univ]
      exact gather_eq hn p X T f hf hnn hin
    · iexact Hsr
  isplitl [Ht]
  · iapply (Entails.of_eq (show (tabLoc d ↦{q} T : sProp 𝕄) = (tabAll).view.loc (thr d L) ↦[(tabAll).view.set]{q} T by rw [tabAll_set]).symm) $$ Ht
  isplitl [Hsg]; · iexact Hsg
  iapply (owed_insert _ hW') $$ HO

set_option maxHeartbeats 1000000 in
/-- Storing block `n` of the lookup: the store is under way. -/
theorem step_store {n : ℕ} {p : Fin 2} {O₀ : S204800x128.Idx → Elt F .f32} {src : Memref sig .scVector .vmem S256x128 .f32} {dst : Memref sig .scVector .hbm S256x128 .f32}
    {sem : DmaSem sig} (hs : src = rowSlot p) (hd : dst = outBlk n) (hsem : sem = rowSem p)
    {h₁ : src.view.WordExact} {h₂ : dst.view.WordExact} {h₃ : DmaTarget.Typed (nD := nD) (τ := τ) (p := (thr d L).2) .vmem (.dma sem) (.here dst)}
    {k : PUnit → Prog (TpuEff nD τ sig (Elt F) Λ₀ (thr d L).2) α} :
    iprop(rowGot d L X T n p ∗ outLoc d ↦[(outBlk n).view.set]{fullShare} O₀)
      ⊢ iprop((rowFly d L X T n p -∗ wp frame (wpE (defs₀ (F := F)) 𝒱₀ (thr d L) none) Set.univ (k ⟨⟩) Q)
      -∗ wp frame (wpE (defs₀ (F := F)) 𝒱₀ (thr d L) none) Set.univ (.op (.enqueueDma src (.here dst) (.dma sem) h₁ h₂ h₃) k) Q) := by
  subst hs hd hsem
  unfold rowGot rowFly
  iintro ⟨⟨⟨%f, %hf, Hf⟩, Hsem⟩, Ho⟩ Hk
  iapply (Transfers.wp_dmaLocal countersEmb 𝒱₀ (thr d L) none (src := rowSlot p) (dst := outBlk n) (via := .same) (sm := .dma (rowSem p))
    (q := fullShare) (fs := f) (fd := O₀) (default : HIx 1)
    (outBlk n).view.dmaCredit rfl (View.dmaCredit_pos _ (by decide)) (Finset.Subset.refl (outBlk n).view.set)) $$ [Hf Ho Hsem]
  · isplitl [Hf]; · iexact Hf
    isplitl [Ho]; · iexact Ho
    iexact Hsem
  iintro Hfl
  iapply Hk
  iapply (Transfers.Flight_mono countersEmb (thr d L) ?_) $$ Hfl
  iintro ⟨Ho, Hf⟩
  isplitl [Ho]
  · iapply (Entails.of_eq (pointsTo_congr (ℓ := outLoc d) (q := fullShare) ?_)) $$ Ho
    intro i hi
    show (outBlk n).view.write (Elt F) O₀ ((rowSlot p).view.read (Elt F) f) Finset.univ i = lookup X T i
    rw [hf, View.write_read_eq_piecewise, View.setOn_univ, Finset.piecewise_eq_of_mem _ _ _ hi]
  · iexists f; iexact Hf

set_option maxHeartbeats 1000000 in
/-- Awaiting the store of block `n`: the rows hold the lookup, the slot is idle again. -/
theorem step_stored {n : ℕ} {p : Fin 2} {src : Memref sig .scVector .vmem S256x128 .f32} {dst : Memref sig .scVector .hbm S256x128 .f32}
    {sem : DmaSem sig} (hd : dst = outBlk n) (hsem : sem = rowSem p)
    {h₁ : src.view.WordExact} {h₂ : dst.view.WordExact}
    {k : PUnit → Prog (TpuEff nD τ sig (Elt F) Λ₀ (thr d L).2) α} :
    iprop(rowFly d L X T n p ∗ owed d L O W ∗ Transfers.MayWaits (thr d L) (default : HIx 1) O)
      ⊢ iprop((iprop((outLoc d ↦[(outBlk n).view.set]{fullShare} (lookup X T : S204800x128.Idx → Elt F .f32)) ∗ rowFree d L p ∗ owed d L O W)
          -∗ wp frame (wpE (defs₀ (F := F)) 𝒱₀ (thr d L) none) Set.univ (k ⟨⟩) Q)
        -∗ wp frame (wpE (defs₀ (F := F)) 𝒱₀ (thr d L) none) Set.univ (.op (.waitDma2 sem src dst h₁ h₂) k) Q) := by
  subst hd hsem
  unfold rowFly
  unfold owed
  iintro ⟨Hfl, ⟨%W', %hW', HO⟩, Hmw⟩ Hk
  iapply (Transfers.wp_waitLocalO countersEmb 𝒱₀ (thr d L) none (default : HIx 1) (rfl : (outBlk n).view.dmaCredit = _)) $$ [Hfl HO Hmw]
  · isplitl [Hfl]; · iexact Hfl
    isplitl [HO]; · iexact HO
    iapply (Transfers.MayWaits.elim (SemLoc.dma (rowSem p))) $$ Hmw
  iintro ⟨⟨Ho, Hf⟩, Hsem, HO⟩
  iapply Hk
  isplitl [Ho]; · iexact Ho
  isplitl [Hf Hsem]
  · unfold rowFree
    isplitl [Hf] <;> iassumption
  · iapply (owed_insert _ hW') $$ HO

end Tile

end Cert.KernelIdeal.Hand
-- ==== Proof.Tile.lean ====
/-
  One tile's run: the pipeline's prologue, its loop by one invariant, its epilogue. The value is carried throughout:
  the blocks already awaited hold the lookup.
-/
module

public import proofs.«01_k».proof.Proof.Steps
public import proofs.«01_k».proof.Proof.Gen.KernelIdeal.Skeleton

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid0.Coords) (q : PosShare TreeShare)
variable (X : S1x204800.Idx → Elt F .i32) (T : S100000x128.Idx → Elt F .f32) (O₀ : S204800x128.Idx → Elt F .f32)
variable (O : CellTallies nD τ sig (HIx 1)) (W : Waits sig (HIx 1))

/-- Block `n` of the indices awaited by slot `p` of the staged indices, as long as there is one. -/
def ahead (n : ℕ) (more : Prop) [Decidable more] (p : Fin 2) : sProp 𝕄 := if more then inFly d L q X n p else inFree d L q X p
/-- Block `n` of the results leaving slot `p`, unless none was sent yet. -/
def behind (n : ℕ) (sent : Prop) [Decidable sent] (p : Fin 2) : sProp 𝕄 := if sent then rowFly d L X T n p else rowFree d L p

/-- Before trip `t`: block `t` is being fetched, block `t - 1` is being stored, the blocks before it are done, those from
    `t` on are untouched. -/
def inv (t : ℕ) (acc : BitVec 32 × BitVec 32 × BitVec 32 × BitVec 32 × BitVec 32) : sProp 𝕄 :=
  iprop(⌜acc = carry t⌝ ∗ Transfers.MayWaits (thr d L) (default : HIx 1) O
    ∗ ahead d L q X (base L + t) (t < 25) (par t) ∗ inFree d L q X (par (t + 1))
    ∗ rowFree d L (par t) ∗ behind d L X T (base L + (t - 1)) (0 < t) (par (t + 1))
    ∗ (outLoc d ↦[rowSet (256 * (base L + t)) (256 * (base L + 25))]{fullShare} O₀)
    ∗ (outLoc d ↦[rowSet (256 * base L) (256 * (base L + (t - 1)))]{fullShare} (lookup X T : S204800x128.Idx → Elt F .f32))
    ∗ (tabLoc d ↦{q} T) ∗ semVal (thr d L, .dma gSem) 0 ∗ owed d L O W)

variable {d L q X T O₀ O W}

/-- A guarded operation before the same continuation in both branches: what the operation gives, the other branch must
    already have. -/
theorem wp_guarded {α : Type} {Q : α → sProp (MT nD τ sig (HIx 1) (Elt F) ℕ UU ℕ)} {c : Prop} [Decidable c]
    {p : c → Prog (TpuEff nD τ sig (Elt F) Λ₀ (thr d L).2) α} {k : Prog (TpuEff nD τ sig (Elt F) Λ₀ (thr d L).2) α}
    {P A : sProp (MT nD τ sig (HIx 1) (Elt F) ℕ UU ℕ)}
    (ht : ∀ h : c, P ⊢ iprop((A -∗ wp frame (wpE (defs₀ (F := F)) 𝒱₀ (thr d L) none) Set.univ k Q)
      -∗ wp frame (wpE (defs₀ (F := F)) 𝒱₀ (thr d L) none) Set.univ (p h) Q))
    (hf : ¬ c → P ⊢ A) :
    P ⊢ iprop((A -∗ wp frame (wpE (defs₀ (F := F)) 𝒱₀ (thr d L) none) Set.univ k Q)
      -∗ wp frame (wpE (defs₀ (F := F)) 𝒱₀ (thr d L) none) Set.univ (if h : c then p h else k) Q) := by
  by_cases h : c
  · rw [dif_pos h]; exact ht h
  · rw [dif_neg h]
    iintro HP Hk
    iapply Hk
    iapply (hf h) $$ HP

set_option maxRecDepth 65536 in
set_option maxHeartbeats 4000000 in
/-- One trip keeps the invariant. -/
theorem trip (hX : ∀ j, (X j : BitVec 32).toNat < 100000) (t : Fin k0_t1_loop.trips) (acc : BitVec 32 × BitVec 32 × BitVec 32 × BitVec 32 × BitVec 32) :
    inv d L q X T O₀ O W t.val acc ⊢ wp frame (wpE (defs₀ (F := F)) 𝒱₀ (thr d L) none) Set.univ
      (k0_t1_body L tabV (Memref.isWhole_whole _) idxV (Memref.isWhole_whole _) outV (Memref.isWhole_whole _) inV (Memref.isWhole_whole _) cc0_scoped1
        rowV (Memref.isWhole_whole _) cc0_scoped3 cc0_scoped4 (baseW L) t acc)
      (inv d L q X T O₀ O W (t.val + 1)) := by
  obtain ⟨a6, a7, a8, a9, a10⟩ := acc
  have ht : t.val < 25 := lt_of_lt_of_eq t.isLt trips_eq
  have hb := base_lt L
  unfold inv
  iintro ⟨%hacc, #Hmw, Hin, Hin', Hrow, Hrow', Htodo, Hdone, Htab, Hsg, HO⟩
  obtain ⟨rfl, rfl, rfl, rfl, rfl⟩ : a6 = c6 t.val ∧ a7 = c7 t.val ∧ a8 = c7 t.val ∧ a9 = c9 t.val ∧ a10 = c10 t.val := by
    simpa [carry, Prod.mk.injEq] using hacc
  unfold k0_t1_body
  simp only [k0_part1_eq_skeleton, k0_part2_eq_skeleton]
  unfold k0_part1_skel k0_part2_skel
  simp only [Prog.lift, Prog.bind_op, Prog.bind_ret, Prog.pure_eq_ret, ite_self]
  rw [wp_assume_of (c := thr d L) (h := chk3_holds t)]
  simp only [Prog.bind_op, Prog.bind_ret]
  rw [wp_assume_of (c := thr d L) (h := chk2_holds t)]
  simp only [Prog.bind_op, Prog.bind_ret]
  rw [wp_assume_of (c := thr d L) (h := chk1_holds L t)]
  simp only [Prog.bind_op, Prog.bind_ret]
  rw [wp_bind]
  iapply (wp_guarded (F := F) (A := ahead d L q X (base L + (t.val + 1)) (t.val + 1 < 25) (par (t.val + 1))) ?_ ?_) $$ Hin'
  · intro h
    have h24 := (cond1_iff L t).mp h
    unfold ahead
    rw [if_pos (show t.val + 1 < 25 by omega)]
    iintro Hin' Hk
    iapply (step_fetch (F := F) (n := base L + (t.val + 1)) (p := par (t.val + 1)) (idxBlk_eq (by omega) (off5_eq L t h24) _) (inSlot_eq (par (t.val + 1)) (off4_eq t) _)
      (sem_eq _ (par (t.val + 1)) (off6_eq t) _)) $$ Hin'
    iintro Hfly
    iapply Hk $$ Hfly
  · intro h
    unfold ahead
    rw [if_neg (fun h' => h ((cond1_iff L t).mpr (by omega)))]
  iintro Hnext
  rw [wp_ret]; imodintro
  dsimp only
  rw [dif_pos (cond2_holds L t)]
  simp only [Prog.bind_op, Prog.bind_ret, bind_assoc]
  ihave Hin := (Entails.of_eq (show (ahead d L q X (base L + t.val) (t.val < 25) (par t.val) : sProp 𝕄) = inFly d L q X (base L + t.val) (par t.val)
    from if_pos ht)) $$ Hin
  iapply (step_fetched (F := F) (inSlot_eq (par t.val) (off7_eq t) _) (sem_eq _ (par t.val) (off9_eq t) _)) $$ [Hin HO]
  · isplitl [Hin]; · iexact Hin
    isplitl [HO]; · iexact HO
    iexact Hmw
  iintro ⟨Hgot, Hsi, Hx, HO⟩
  iapply (step_gather hX (n := base L + t.val) (by omega) rfl (rowSlot_eq (par t.val) (off10_eq t) _) (rowSlot_eq (par t.val) (off10_eq t) _)
    (listSlot_eq (par t.val) (off11_eq t) _)) $$ [Hgot Hsi Hx Hrow Htab Hsg HO]
  · isplitl [Hgot]; · iexact Hgot
    isplitl [Hsi]; · iexact Hsi
    isplitl [Hx]; · iexact Hx
    isplitl [Hrow]; · iexact Hrow
    isplitl [Htab]; · iexact Htab
    isplitl [Hsg]; · iexact Hsg
    isplitl [HO]; · iexact HO
    iexact Hmw
  iintro ⟨Hin, Hrow, Htab, Hsg, HO⟩
  simp only [Prog.bind_op, Prog.bind_ret]
  rw [dif_pos (cond5_holds L t)]
  ihave Htodo := (pointsTo_split_subset (ℓ := outLoc d) (q := fullShare) (f := O₀)
    (I := rowSet (256 * (base L + t.val)) (256 * (base L + t.val + 1))) (rowSet_subset (le_refl _) (by omega))).1 $$ Htodo
  rw [rowSet_sdiff_low (by omega), ← outBlk_set (n := base L + t.val) (by omega)]
  icases Htodo with ⟨Hblk, Htodo⟩
  iapply (step_store (F := F) (rowSlot_eq (par t.val) (off12_eq t) _) (outBlk_eq (n := base L + t.val) (by omega) (off13_eq L t) _)
    (sem_eq _ (par t.val) (off14_eq t) _)) $$ [Hrow Hblk]
  · isplitl [Hrow] <;> iassumption
  iintro Hout
  iapply (wp_guarded (F := F) (P := iprop(behind d L X T (base L + (t.val - 1)) (0 < t.val) (par (t.val + 1))
      ∗ (outLoc d ↦[rowSet (256 * base L) (256 * (base L + (t.val - 1)))]{fullShare} (lookup X T : S204800x128.Idx → Elt F .f32))
      ∗ owed d L O W ∗ Transfers.MayWaits (thr d L) (default : HIx 1) O)) (A := iprop((outLoc d ↦[rowSet (256 * base L) (256 * (base L + t.val))]{fullShare} (lookup X T : S204800x128.Idx → Elt F .f32))
      ∗ rowFree d L (par (t.val + 1)) ∗ owed d L O W)) ?_ ?_) $$ [Hrow' Hdone HO]
  · intro h
    have h0 := (cond7_iff L t).mp h
    unfold behind
    rw [if_pos h0]
    iintro ⟨Hrow', Hdone, HO, #Hmw⟩ Hk
    iapply (step_stored (F := F) (outBlk_eq (n := base L + (t.val - 1)) (by omega) (off16_eq L t h0) _) (sem_eq _ (par (t.val + 1)) (off17_eq t h0) _)) $$ [Hrow' HO]
    · isplitl [Hrow']; · iexact Hrow'
      isplitl [HO]; · iexact HO
      iexact Hmw
    iintro ⟨Hblk, Hrow', HO⟩
    iapply Hk
    isplitl [Hblk Hdone]
    · iapply (pointsTo_split_subset (ℓ := outLoc d) (q := fullShare) (f := (lookup X T : S204800x128.Idx → Elt F .f32))
        (I := rowSet (256 * (base L + (t.val - 1))) (256 * (base L + t.val))) (rowSet_subset (by omega) (le_refl _))).2
      rw [rowSet_sdiff_high (by omega), outBlk_set (n := base L + (t.val - 1)) (by omega), show base L + (t.val - 1) + 1 = base L + t.val by omega]
      isplitl [Hblk] <;> iassumption
    isplitl [Hrow'] <;> iassumption
  · intro h
    have h0 : t.val = 0 := by
      by_contra h'; exact h ((cond7_iff L t).mpr (by omega))
    unfold behind
    rw [if_neg (by omega), h0]
    iintro ⟨Hrow', Hdone, HO, -⟩
    isplitl [Hdone]; · iexact Hdone
    isplitl [Hrow'] <;> iassumption
  · isplitl [Hrow']; · iexact Hrow'
    isplitl [Hdone]; · iexact Hdone
    isplitl [HO]; · iexact HO
    iexact Hmw
  iintro ⟨Hdone, Hrow', HO⟩
  rw [wp_ret]; imodintro
  isplitr
  · ipureintro; exact carry_step L t
  isplitr; · iexact Hmw
  isplitl [Hnext]; · iexact Hnext
  isplitl [Hin]
  · rw [par_add_two]; iexact Hin
  isplitl [Hrow']; · iexact Hrow'
  isplitl [Hout]
  · unfold behind
    rw [if_pos (by omega), par_add_two]; iexact Hout
  isplitl [Htodo]; · iexact Htodo
  isplitl [Hdone]; · iexact Hdone
  isplitl [Htab]; · iexact Htab
  isplitl [Hsg] <;> iassumption

set_option maxRecDepth 65536 in
set_option maxHeartbeats 4000000 in
/-- The tile's run: its 6400 rows of the result come to hold the lookup, everything else is as it was. -/
theorem tile_run (hX : ∀ j, (X j : BitVec 32).toNat < 100000) :
    iprop(Transfers.MayWaits (thr d L) (default : HIx 1) O ∗ inFree d L q X 0 ∗ inFree d L q X 1 ∗ rowFree d L 0 ∗ rowFree d L 1
        ∗ (outLoc d ↦[rowSet (256 * base L) (256 * (base L + 25))]{fullShare} O₀) ∗ (tabLoc d ↦{q} T) ∗ semVal (thr d L, .dma gSem) 0 ∗ owed d L O W)
      ⊢ wp frame (wpE (defs₀ (F := F)) 𝒱₀ (thr d L) none) Set.univ
        (cc0_gather_kernel L tabV (Memref.isWhole_whole _) idxV (Memref.isWhole_whole _) outV (Memref.isWhole_whole _) inV (Memref.isWhole_whole _) cc0_scoped1
          rowV (Memref.isWhole_whole _) cc0_scoped3 cc0_scoped4)
        fun _ => iprop(inFree d L q X 0 ∗ inFree d L q X 1 ∗ rowFree d L 0 ∗ rowFree d L 1
          ∗ (outLoc d ↦[rowSet (256 * base L) (256 * (base L + 25))]{fullShare} (lookup X T : S204800x128.Idx → Elt F .f32))
          ∗ (tabLoc d ↦{q} T) ∗ semVal (thr d L, .dma gSem) 0 ∗ owed d L O W) := by
  have hb := base_lt L
  iintro ⟨#Hmw, Hin0, Hin1, Hrow0, Hrow1, Htodo, Htab, Hsg, HO⟩
  rw [cc0_gather_kernel_eq_skeleton]
  unfold cc0_gather_kernel_skel
  simp only [k0_part3_eq_skeleton, k0_part4_eq_skeleton]
  unfold k0_part3_skel k0_part4_skel
  simp only [Prog.lift, Prog.bind_op, Prog.bind_ret, Prog.pure_eq_ret, bind_assoc]
  iapply (step_fetch (F := F) (n := base L) (p := 0) (idxBlk_eq (by omega) (off2_eq L) _) (inSlot_eq 0 off1_eq _) (sem_eq _ 0 off3_eq _)) $$ Hin0
  iintro Hfly
  ihave Hdone := (Entails.of_eq (pointsTo_empty (ℓ := outLoc d) (q := fullShare) (f := (lookup X T : S204800x128.Idx → Elt F .f32))).symm) $$ []
  · iempintro
  iapply (Scf.wp_for_bind _ _ _ _ _ _ _ _ _ (inv d L q X T O₀ O W) (fun t acc => trip hX t acc)) $$ [Hfly Hin1 Hrow0 Hrow1 Htodo Hdone Htab Hsg HO]
  · unfold inv
    isplitr; · ipureintro; decide
    isplitr; · iexact Hmw
    isplitl [Hfly]
    · unfold ahead; rw [if_pos (by decide)]; iexact Hfly
    isplitl [Hin1]; · iexact Hin1
    isplitl [Hrow0]; · iexact Hrow0
    isplitl [Hrow1]
    · unfold behind; rw [if_neg (by decide)]; iexact Hrow1
    isplitl [Htodo]; · iexact Htodo
    isplitl [Hdone]
    · rw [show base L + (0 - 1) = base L from rfl, rowSet_self]; iexact Hdone
    isplitl [Htab]; · iexact Htab
    isplitl [Hsg] <;> iassumption
  iintro %acc Hinv
  ihave Hinv := (Entails.of_eq (congrArg (fun n => inv d L q X T O₀ O W n acc) trips_eq)) $$ Hinv
  unfold inv
  icases Hinv with ⟨%hacc, -, Hin1, Hin0, Hrow1, Hrow0, -, Hdone, Htab, Hsg, HO⟩
  obtain ⟨a6, a7, a8, a9, a10⟩ := acc
  obtain ⟨rfl, rfl, rfl, rfl, rfl⟩ : a6 = c6 25 ∧ a7 = c7 25 ∧ a8 = c7 25 ∧ a9 = c9 25 ∧ a10 = c10 25 := by
    simpa [carry, Prod.mk.injEq] using hacc
  simp only [Prog.bind_op, Prog.bind_ret, Prog.lift]
  rw [wp_assume_of (c := thr d L) (h := chk5_holds L)]
  simp only [Prog.bind_op, Prog.bind_ret]
  rw [wp_assume_of (c := thr d L) (h := chk4_holds)]
  simp only [Prog.bind_op, Prog.bind_ret]
  ihave Hin1 := (Entails.of_eq (show (ahead d L q X (base L + 25) (25 < 25) (par 25) : sProp 𝕄) = inFree d L q X 1 from if_neg (by decide))) $$ Hin1
  ihave Hrow0 := (Entails.of_eq (show (behind d L X T (base L + (25 - 1)) (0 < 25) (par (25 + 1)) : sProp 𝕄) = rowFly d L X T (base L + 24) 0
    from if_pos (by decide))) $$ Hrow0
  iapply (step_stored (F := F) (n := base L + 24) (p := 0) (outBlk_eq (by omega) (off19_eq L) _) (sem_eq _ 0 off20_eq _)) $$ [Hrow0 HO]
  · isplitl [Hrow0]; · iexact Hrow0
    isplitl [HO]; · iexact HO
    iexact Hmw
  iintro ⟨Hblk, Hrow0, HO⟩
  rw [wp_ret]; imodintro
  isplitl [Hin0]; · iexact Hin0
  isplitl [Hin1]; · iexact Hin1
  isplitl [Hrow0]; · iexact Hrow0
  isplitl [Hrow1]; · iexact Hrow1
  isplitl [Hblk Hdone]
  · iapply (pointsTo_split_subset (ℓ := outLoc d) (q := fullShare) (f := (lookup X T : S204800x128.Idx → Elt F .f32))
        (I := rowSet (256 * (base L + 24)) (256 * (base L + 25))) (rowSet_subset (by omega) (le_refl _))).2
    rw [rowSet_sdiff_high (by omega), outBlk_set (n := base L + 24) (by omega)]
    isplitl [Hblk] <;> iassumption
  isplitl [Htab]; · iexact Htab
  isplitl [Hsg] <;> iassumption

end Tile

end Cert.KernelIdeal.Hand
-- ==== Proof.Task.lean ====
/-
  The tile as the launch meets it: its own buffers split into their slots, its share of the call's resources, the
  obligation the launch theorem asks of it, and the splitting of the whole among 2 cores of 16 tiles.
-/
module

public import proofs.«01_k».proof.Proof.Tile

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-! ## The two slots of a staging buffer -/

omit [FloatOps F] in
/-- A slot of the indices is what its number selects, -/
theorem mem_inSlot (p : Fin 2) (x : S2x1x256.Idx) : x ∈ (inSlot p).view.set ↔ (x 0).val = p.val := by
  rw [show (inSlot p).view.set = ((inV).view.slice (Rect.unit (s := S2x1x256) ![p.val, 0, 0] S1x1x256.size (inb_in p))).set from View.set_reshape _ _, show ((inV).view.slice (Rect.unit (s := S2x1x256) ![p.val, 0, 0] S1x1x256.size (inb_in p))).set
    = (Rect.unit (s := S2x1x256) ![p.val, 0, 0] S1x1x256.size (inb_in p)).set from View.set_slice_whole _ _, Rect.mem_set_unit]
  have h1 : (x 1).val < 1 := (x 1).isLt
  have h2 : (x 2).val < 256 := (x 2).isLt
  constructor
  · intro h
    have h0 : p.val ≤ (x 0).val ∧ (x 0).val < p.val + 1 := h 0
    omega
  · intro h a
    match a with
    | 0 => show p.val ≤ (x 0).val ∧ (x 0).val < p.val + 1; omega
    | 1 => show 0 ≤ (x 1).val ∧ (x 1).val < 0 + 1; omega
    | 2 => show 0 ≤ (x 2).val ∧ (x 2).val < 0 + 256; omega

omit [FloatOps F] in
/-- and so is a slot of the rows. -/
theorem mem_rowSlot (p : Fin 2) (x : S2x256x128.Idx) : x ∈ (rowSlot p).view.set ↔ (x 0).val = p.val := by
  rw [show (rowSlot p).view.set = ((rowV).view.slice (Rect.unit (s := S2x256x128) ![p.val, 0, 0] S1x256x128.size (inb_row p))).set from View.set_reshape _ _, show ((rowV).view.slice (Rect.unit (s := S2x256x128) ![p.val, 0, 0] S1x256x128.size (inb_row p))).set
    = (Rect.unit (s := S2x256x128) ![p.val, 0, 0] S1x256x128.size (inb_row p)).set from View.set_slice_whole _ _, Rect.mem_set_unit]
  have h1 : (x 1).val < 256 := (x 1).isLt
  have h2 : (x 2).val < 128 := (x 2).isLt
  constructor
  · intro h
    have h0 : p.val ≤ (x 0).val ∧ (x 0).val < p.val + 1 := h 0
    omega
  · intro h a
    match a with
    | 0 => show p.val ≤ (x 0).val ∧ (x 0).val < p.val + 1; omega
    | 1 => show 0 ≤ (x 1).val ∧ (x 1).val < 0 + 256; omega
    | 2 => show 0 ≤ (x 2).val ∧ (x 2).val < 0 + 128; omega

omit [FloatOps F] in
/-- The second slot is what the first leaves, -/
theorem inSlot_rest : Finset.univ \ (inSlot 0).view.set = (inSlot 1).view.set := by
  ext x
  have h : (x 0).val < 2 := (x 0).isLt
  rw [Finset.mem_sdiff, mem_inSlot, mem_inSlot]
  refine ⟨fun h' => ?_, fun h' => ⟨Finset.mem_univ _, ?_⟩⟩
  · have h0 : ¬ (x 0).val = 0 := h'.2
    show (x 0).val = 1; omega
  · have h1 : (x 0).val = 1 := h'
    show ¬ (x 0).val = 0; omega
omit [FloatOps F] in
/-- in both buffers. -/
theorem rowSlot_rest : Finset.univ \ (rowSlot 0).view.set = (rowSlot 1).view.set := by
  ext x
  have h : (x 0).val < 2 := (x 0).isLt
  rw [Finset.mem_sdiff, mem_rowSlot, mem_rowSlot]
  refine ⟨fun h' => ?_, fun h' => ⟨Finset.mem_univ _, ?_⟩⟩
  · have h0 : ¬ (x 0).val = 0 := h'.2
    show (x 0).val = 1; omega
  · have h1 : (x 0).val = 1 := h'
    show ¬ (x 0).val = 0; omega

omit [FloatOps F] in
/-- A buffer held in two parts, each at contents of its own, is held whole. -/
theorem join_parts {ℓ : Loc nD τ sig} (I : Finset (Idx ℓ)) :
    (iprop((∃ f, ℓ ↦[I]{fullShare} f) ∗ ∃ f, ℓ ↦[Finset.univ \ I]{fullShare} f) : sProp 𝕄) ⊢ iprop(∃ f, ℓ ↦{fullShare} f) := by
  classical
  iintro ⟨⟨%f, Hf⟩, ⟨%g, Hg⟩⟩
  iexists (I.piecewise f g)
  iapply (pointsTo_split_subset (ℓ := ℓ) (q := fullShare) (f := I.piecewise f g) (S := Finset.univ) (Finset.subset_univ I)).2
  isplitl [Hf]
  · iapply (Entails.of_eq (pointsTo_congr (ℓ := ℓ) (q := fullShare) (fun i hi => (Finset.piecewise_eq_of_mem I f g hi).symm))) $$ Hf
  · iapply (Entails.of_eq (pointsTo_congr (ℓ := ℓ) (q := fullShare)
      (fun i hi => (Finset.piecewise_eq_of_notMem I f g (Finset.mem_sdiff.mp hi).2).symm))) $$ Hg

section Slots

variable (d : Dev nD) (L : grid0.Coords)

omit [FloatOps F] in
/-- The buffer of indices comes apart into its slots, -/
theorem in_split : (iprop(∃ f, (thr d L).loc cc0_scoped0 ↦{fullShare} f) : sProp 𝕄) ⊢ iprop((∃ f, inPts (F := F) d L 0 f) ∗ ∃ f, inPts (F := F) d L 1 f) := by
  iintro ⟨%f, Hf⟩
  ihave H := (pointsTo_split_subset (ℓ := (thr d L).loc cc0_scoped0) (q := fullShare) (f := f) (S := Finset.univ) (Finset.subset_univ (inSlot 0).view.set)).1 $$ Hf
  rw [inSlot_rest]
  icases H with ⟨H0, H1⟩
  isplitl [H0]
  · iexists f; iexact H0
  · iexists f; iexact H1
omit [FloatOps F] in
/-- and back together; -/
theorem in_join : (iprop((∃ f, inPts (F := F) d L 0 f) ∗ ∃ f, inPts (F := F) d L 1 f) : sProp 𝕄) ⊢ iprop(∃ f, (thr d L).loc cc0_scoped0 ↦{fullShare} f) := by
  have h := join_parts (F := F) (ℓ := (thr d L).loc cc0_scoped0) (inSlot 0).view.set
  rw [inSlot_rest] at h
  exact h
omit [FloatOps F] in
/-- so does the buffer of rows, -/
theorem row_split : (iprop(∃ f, (thr d L).loc cc0_scoped2 ↦{fullShare} f) : sProp 𝕄) ⊢ iprop((∃ f, rowPts (F := F) d L 0 f) ∗ ∃ f, rowPts (F := F) d L 1 f) := by
  iintro ⟨%f, Hf⟩
  ihave H := (pointsTo_split_subset (ℓ := (thr d L).loc cc0_scoped2) (q := fullShare) (f := f) (S := Finset.univ) (Finset.subset_univ (rowSlot 0).view.set)).1 $$ Hf
  rw [rowSlot_rest]
  icases H with ⟨H0, H1⟩
  isplitl [H0]
  · iexists f; iexact H0
  · iexists f; iexact H1
omit [FloatOps F] in
/-- and back. -/
theorem row_join : (iprop((∃ f, rowPts (F := F) d L 0 f) ∗ ∃ f, rowPts (F := F) d L 1 f) : sProp 𝕄) ⊢ iprop(∃ f, (thr d L).loc cc0_scoped2 ↦{fullShare} f) := by
  have h := join_parts (F := F) (ℓ := (thr d L).loc cc0_scoped2) (rowSlot 0).view.set
  rw [rowSlot_rest] at h
  exact h

/-- The tile's five semaphores. -/
abbrev cell (s : DmaSem sig) : GSem nD τ sig := (thr d L, .dma s)

omit [FloatOps F] in
/-- The five are among the tile's own, all at zero when it starts. -/
theorem ownSems0_V :
    (ownSems0 (thr d L) : sProp 𝕄)
      = iprop(semVal (cell d L (inSem 0)) 0 ∗ semVal (cell d L (inSem 1)) 0 ∗ semVal (cell d L (rowSem 0)) 0 ∗ semVal (cell d L (rowSem 1)) 0
          ∗ semVal (cell d L gSem) 0
          ∗ bigSep ((((((ownCells (thr d L)).erase (cell d L (inSem 0))).erase (cell d L (inSem 1))).erase (cell d L (rowSem 0))).erase
              (cell d L (rowSem 1))).erase (cell d L gSem)) fun g => semVal g 0) := by
  have hne : ∀ {s s' : DmaSem sig}, s ≠ s' → cell d L s ≠ cell d L s' := fun h e => h (SemLoc.dma.inj (Prod.mk.inj e).2)
  have hmem : ∀ s : DmaSem sig, (SemLoc.dma s : SemLoc sig).isScoped .scVector = true → cell d L s ∈ ownCells (thr d L) :=
    fun s h => (mem_ownCells (g := cell d L s)).mpr ⟨rfl, h⟩
  unfold SparseCore.Cfg.ownSems0
  rw [SparseCore.bigSep_erase' (hmem (inSem 0) (by decide)),
    SparseCore.bigSep_erase' (Finset.mem_erase.mpr ⟨hne (s := inSem 1) (s' := inSem 0) (by decide), hmem (inSem 1) (by decide)⟩),
    SparseCore.bigSep_erase' (Finset.mem_erase.mpr ⟨hne (s := rowSem 0) (s' := inSem 1) (by decide),
      Finset.mem_erase.mpr ⟨hne (s' := inSem 0) (by decide), hmem (rowSem 0) (by decide)⟩⟩),
    SparseCore.bigSep_erase' (Finset.mem_erase.mpr ⟨hne (s := rowSem 1) (s' := rowSem 0) (by decide),
      Finset.mem_erase.mpr ⟨hne (s' := inSem 1) (by decide), Finset.mem_erase.mpr ⟨hne (s' := inSem 0) (by decide), hmem (rowSem 1) (by decide)⟩⟩⟩),
    SparseCore.bigSep_erase' (Finset.mem_erase.mpr ⟨hne (s := gSem) (s' := rowSem 1) (by decide),
      Finset.mem_erase.mpr ⟨hne (s' := rowSem 0) (by decide), Finset.mem_erase.mpr ⟨hne (s' := inSem 1) (by decide),
        Finset.mem_erase.mpr ⟨hne (s' := inSem 0) (by decide), hmem gSem (by decide)⟩⟩⟩⟩)]

omit [FloatOps F] in
/-- The two staging buffers are among the tile's own. -/
theorem ownBufs_V :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Slots

/-! ## The resources of a call, a core, a tile -/

variable (m : (ℓ : Loc nD τ sig) → Buf (Elt F) ℓ)

/-- The indices in a row, the table, the lookup. -/
abbrev argLoc (d : Dev nD) : Loc nD τ sig := (SparseCore.T d).loc main_arg0
def Xv (d : Dev nD) : S1x204800.Idx → Elt F .i32 := shapeCast S1x204800 (m (argLoc d) : S4096x50.Idx → Elt F .i32) shapeCasts_S4096x50_S1x204800
abbrev Tv (d : Dev nD) : S100000x128.Idx → Elt F .f32 := m (tabLoc d)
abbrev Ov (d : Dev nD) : S204800x128.Idx → Elt F .f32 := m (outLoc d)
abbrev Lv (d : Dev nD) : S204800x128.Idx → Elt F .f32 := lookup (Xv m d) (Tv m d)

/-- What the proof asks of the launch memory: every index names a row of the table. -/
def PreOK : Prop := ∀ (d : Dev nD) (j : S4096x50.Idx), (m (argLoc d) j : BitVec 32).toNat < 100000

omit [FloatOps F] in
/-- The indices in a row are in range too. -/
theorem Xv_lt (h : PreOK m) (d : Dev nD) (j : S1x204800.Idx) : (Xv m d j : BitVec 32).toNat < 100000 := h d _

/-- A core's and a tile's share of the indices and of the table. -/
def coreQ (c : Fin 2) : PosShare TreeShare := pieceOf fullShare 2 (by decide) c
def tileQ (L : grid0.Coords) : PosShare TreeShare := pieceOf (coreQ (L 0)) 16 (by decide) (L 1)

/-- A call's, a core's and a tile's resources, the result at `f`: shares of the indices and of the table, rows of the result. -/
def callRes (d : Dev nD) (f : S204800x128.Idx → Elt F .f32) : sProp 𝕄 :=
  iprop((idxLoc d ↦{fullShare} Xv m d) ∗ (tabLoc d ↦{fullShare} Tv m d) ∗ outLoc d ↦{fullShare} f)
def coreRes (d : Dev nD) (c : Fin 2) (f : S204800x128.Idx → Elt F .f32) : sProp 𝕄 :=
  iprop((idxLoc d ↦{coreQ c} Xv m d) ∗ (tabLoc d ↦{coreQ c} Tv m d) ∗ outLoc d ↦[rowSet (102400 * c.val) (102400 * (c.val + 1))]{fullShare} f)
def taskRes (d : Dev nD) (L : grid0.Coords) (f : S204800x128.Idx → Elt F .f32) : sProp 𝕄 :=
  iprop((idxLoc d ↦{tileQ L} Xv m d) ∗ (tabLoc d ↦{tileQ L} Tv m d) ∗ outLoc d ↦[rowSet (256 * base L) (256 * (base L + 25))]{fullShare} f)

/-- What the call hands over can be stored in a handshake, -/
instance callRes_storable (d : Dev nD) (f : S204800x128.Idx → Elt F .f32) : BI.Storable (upEmb : UEmb _ 𝕄) (callRes m d f) := by
  unfold callRes; infer_instance
/-- a core's part, -/
instance coreRes_storable (d : Dev nD) (c : Fin 2) (f : S204800x128.Idx → Elt F .f32) : BI.Storable (upEmb : UEmb _ 𝕄) (coreRes m d c f) := by
  unfold coreRes; infer_instance
/-- and a tile's. -/
instance taskRes_storable (d : Dev nD) (L : grid0.Coords) (f : S204800x128.Idx → Elt F .f32) : BI.Storable (upEmb : UEmb _ 𝕄) (taskRes m d L f) := by
  unfold taskRes; infer_instance

omit [FloatOps F] in
/-- The two halves of the rows are all of them, -/
theorem core_cover : (Finset.univ : Finset S204800x128.Idx) = Finset.univ.biUnion fun c : Fin 2 => rowSet (102400 * c.val) (102400 * (c.val + 1)) := by
  ext x
  have hx : (x 0).val < 204800 := (x 0).isLt
  simp only [Finset.mem_univ, Finset.mem_biUnion, true_and, true_iff]
  exact ⟨⟨(x 0).val / 102400, by omega⟩, mem_rowSet.mpr ⟨by show 102400 * ((x 0).val / 102400) ≤ _; omega, by show _ < 102400 * ((x 0).val / 102400 + 1); omega⟩⟩
omit [FloatOps F] in
/-- and the tiles' sixteenths all of a half. -/
theorem tile_cover (c : Fin 2) : rowSet (102400 * c.val) (102400 * (c.val + 1))
    = Finset.univ.biUnion fun i : Fin 16 => rowSet (256 * base (coordsV c i)) (256 * (base (coordsV c i) + 25)) := by
  have hb : ∀ i : Fin 16, base (coordsV c i) = 25 * (i.val + 16 * c.val) := fun _ => rfl
  ext x
  simp only [Finset.mem_univ, Finset.mem_biUnion, true_and, mem_rowSet]
  constructor
  · rintro ⟨h1, h2⟩
    refine ⟨⟨(x 0).val / 6400 - 16 * c.val, by omega⟩, ?_⟩
    rw [hb]; dsimp only; omega
  · rintro ⟨i, h1, h2⟩
    have := i.isLt
    rw [hb] at h1 h2; omega

omit [FloatOps F] in
/-- Holding the result is holding the cores' halves of it, -/
theorem core_rows (d : Dev nD) (f : S204800x128.Idx → Elt F .f32) :
    (outLoc d ↦{fullShare} f : sProp 𝕄) = bigSep Finset.univ fun c : Fin 2 => outLoc d ↦[rowSet (102400 * c.val) (102400 * (c.val + 1))]{fullShare} f := by
  rw [← pointsTo_biUnion Finset.univ (ℓ := outLoc d) (fun c : Fin 2 => rowSet (102400 * c.val) (102400 * (c.val + 1)))
    (fun c _ c' _ h => rowSet_disjoint (by have : c.val ≠ c'.val := fun e => h (Fin.ext e); omega))]
  rw [← core_cover]
omit [FloatOps F] in
/-- and holding a half is holding its tiles' rows. -/
theorem tile_rows (d : Dev nD) (c : Fin 2) (f : S204800x128.Idx → Elt F .f32) :
    (outLoc d ↦[rowSet (102400 * c.val) (102400 * (c.val + 1))]{fullShare} f : sProp 𝕄)
      = bigSep Finset.univ fun i : Fin 16 => outLoc d ↦[rowSet (256 * base (coordsV c i)) (256 * (base (coordsV c i) + 25))]{fullShare} f := by
  have hb : ∀ i : Fin 16, base (coordsV c i) = 25 * (i.val + 16 * c.val) := fun _ => rfl
  rw [← pointsTo_biUnion Finset.univ (ℓ := outLoc d) (fun i : Fin 16 => rowSet (256 * base (coordsV c i)) (256 * (base (coordsV c i) + 25)))
    (fun i _ i' _ h => rowSet_disjoint (by have : i.val ≠ i'.val := fun e => h (Fin.ext e); rw [hb, hb]; omega))]
  rw [← tile_cover]

omit [FloatOps F] in
/-- A call's resources are its two cores', -/
theorem callRes_eq (d : Dev nD) (f : S204800x128.Idx → Elt F .f32) : callRes m d f = bigSep Finset.univ fun c : Fin 2 => coreRes m d c f := by
  have h1 : (idxLoc d ↦{fullShare} Xv m d : sProp 𝕄) = bigSep Finset.univ fun c : Fin 2 => idxLoc d ↦{coreQ c} Xv m d :=
    pointsTo_piecesOf _ _ (by decide) _
  have h2 : (tabLoc d ↦{fullShare} Tv m d : sProp 𝕄) = bigSep Finset.univ fun c : Fin 2 => tabLoc d ↦{coreQ c} Tv m d :=
    pointsTo_piecesOf _ _ (by decide) _
  unfold callRes coreRes
  rw [h1, h2, core_rows, bigSep_sep', bigSep_sep']
omit [FloatOps F] in
/-- a core's its sixteen tiles'. -/
theorem coreRes_eq (d : Dev nD) (c : Fin 2) (f : S204800x128.Idx → Elt F .f32) : coreRes m d c f = bigSep Finset.univ fun i : Fin 16 => taskRes m d (coordsV c i) f := by
  have h1 : (idxLoc d ↦{coreQ c} Xv m d : sProp 𝕄) = bigSep Finset.univ fun i : Fin 16 => idxLoc d ↦{tileQ (coordsV c i)} Xv m d :=
    pointsTo_piecesOf _ _ (by decide) _
  have h2 : (tabLoc d ↦{coreQ c} Tv m d : sProp 𝕄) = bigSep Finset.univ fun i : Fin 16 => tabLoc d ↦{tileQ (coordsV c i)} Tv m d :=
    pointsTo_piecesOf _ _ (by decide) _
  unfold coreRes taskRes
  rw [h1, h2, tile_rows, bigSep_sep', bigSep_sep']

/-! ## The tile's obligation -/

/-- The tile on vector subcore `L`: from its resources to its resources, its rows of the result at the lookup. -/
theorem tile_body (d : Dev nD) (L : grid0.Coords) (hF : (K (F := F)).Facts) (hpre : PreOK m) (O : CellTallies nD τ sig (HIx 1)) (W : Waits sig (HIx 1))
    (hO : ∀ g, O g none = 0) :
    iprop(levAts (K (F := F)).L (K (F := F)).lev ∗ emp ∗ taskRes m d L (Ov m d)
        ∗ scopedBufs (thr d L) ∗ scopedSems0 (thr d L) ∗ owes (thr d L) O W)
      ⊢ wp frame (wpE (defs₀ (F := F)) 𝒱₀ (thr d L) none) Set.univ
        (cc0_gather_kernel L tabV (Memref.isWhole_whole _) idxV (Memref.isWhole_whole _) outV (Memref.isWhole_whole _) inV (Memref.isWhole_whole _) cc0_scoped1
          rowV (Memref.isWhole_whole _) cc0_scoped3 cc0_scoped4)
        fun _ => iprop(taskRes m d L (Lv m d) ∗ scopedBufs (thr d L) ∗ scopedSems0 (thr d L)
          ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold taskRes
  iintro ⟨#Hlv, -, ⟨Hx, Ht, Ho⟩, ⟨Hi, Hr, Hbufs⟩, ⟨Hi0, Hi1, Hr0, Hr1, Hg, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (in_split (F := F) d L) $$ Hi
  icases Hi with ⟨Hb0, Hb1⟩
  ihave Hr := (row_split (F := F) d L) $$ Hr
  icases Hr with ⟨Hc0, Hc1⟩
  ihave Hx := (pointsTo_share (PosShare.mem_left_op_right (tileQ L))).1 $$ Hx
  icases Hx with ⟨Hxl, Hxr⟩
  iapply (wp_wand) $$ [Hmw Hb0 Hb1 Hc0 Hc1 Hxl Hxr Ht Ho Hi0 Hi1 Hr0 Hr1 Hg HO]
  · iapply (tile_run (F := F) (q := tileQ L) (T := Tv m d) (O₀ := Ov m d) (O := O) (W := W) (Xv_lt m hpre d))
    unfold inFree rowFree owed
    isplitl [Hmw]; · iexact Hmw
    isplitl [Hb0 Hi0 Hxl]
    · isplitl [Hb0]; · iexact Hb0
      isplitl [Hi0]; · iexact Hi0
      iexact Hxl
    isplitl [Hb1 Hi1 Hxr]
    · isplitl [Hb1]; · iexact Hb1
      isplitl [Hi1]; · iexact Hi1
      iexact Hxr
    isplitl [Hc0 Hr0]; · isplitl [Hc0] <;> iassumption
    isplitl [Hc1 Hr1]; · isplitl [Hc1] <;> iassumption
    isplitl [Ho]; · iexact Ho
    isplitl [Ht]; · iexact Ht
    isplitl [Hg]; · iexact Hg
    iexists W; isplitr
    · ipureintro; exact fun p hp => .inl hp
    · iexact HO
  iintro %_ H
  unfold inFree rowFree owed
  icases H with ⟨⟨Hb0, Hi0, Hxl⟩, ⟨Hb1, Hi1, Hxr⟩, ⟨Hc0, Hr0⟩, ⟨Hc1, Hr1⟩, Ho, Ht, Hg, HO⟩
  isplitl [Hxl Hxr Ht Ho]
  · isplitl [Hxl Hxr]
    · iapply (pointsTo_share (PosShare.mem_left_op_right (tileQ L))).2
      isplitl [Hxl]
      · iexact Hxl
      · iexact Hxr
    isplitl [Ht] <;> iassumption
  isplitl [Hb0 Hb1 Hc0 Hc1 Hbufs]
  · isplitl [Hb0 Hb1]
    · iapply (in_join (F := F) d L)
      isplitl [Hb0] <;> iassumption
    isplitl [Hc0 Hc1]
    · iapply (row_join (F := F) d L)
      isplitl [Hc0] <;> iassumption
    iexact Hbufs
  isplitl [Hi0 Hi1 Hr0 Hr1 Hg Hsems]
  · isplitl [Hi0]; · iexact Hi0
    isplitl [Hi1]; · iexact Hi1
    isplitl [Hr0]; · iexact Hr0
    isplitl [Hr1]; · iexact Hr1
    isplitl [Hg] <;> iassumption
  iexact HO

end Cert.KernelIdeal.Hand
-- ==== Proof.Launch.lean ====
/-
  The launch: the payloads of the one call, the obligations of the launch theorem, @main on the TensorCore — the indices
  laid in a row, the call, the rows laid out by the indices' shape —, and the run of the whole program with its value.
-/
module

public import proofs.«01_k».proof.Proof.Task

@[expose] public section

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

/-- The handshakes' semaphores belong to no kernel, and no buffer is shared among a core's tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

variable (m : (ℓ : Loc nD τ sig) → Buf (Elt F) ℓ) (ρ : Dev nD → PrngReg)

/-- The call runs on two cores -/
theorem nCore_zero : (K (F := F)).nCore 0 = 2 := rfl
/-- of sixteen tiles. -/
theorem nSub_zero : (K (F := F)).nSub 0 = 16 := rfl

/-- The call hands each core its resources and takes them back, the result at the lookup; so does a core with its tiles. -/
def P : (K (F := F)).Pay (nD := nD) (Val := Elt F) (Name := ℕ) (U := UU) where
  st := fun q d c => match q with | 0 => coreRes m d (Fin.cast nCore_zero c) (Ov m d)
  dn := fun q d c => match q with | 0 => coreRes m d (Fin.cast nCore_zero c) (Lv m d)
  go := fun q d c i => match q with | 0 => taskRes m d (coordsV (Fin.cast nCore_zero c) (Fin.cast nSub_zero i)) (Ov m d)
  td := fun q d c i => match q with | 0 => taskRes m d (coordsV (Fin.cast nCore_zero c) (Fin.cast nSub_zero i)) (Lv m d)
  x := fun _ _ => iprop(emp)

/-- All of it can be stored in a handshake. -/
instance P_storable : (P (F := F) m).IsStorable where
  st q d c := match q with | 0 => coreRes_storable m d (Fin.cast nCore_zero c) (Ov m d)
  dn q d c := match q with | 0 => coreRes_storable m d (Fin.cast nCore_zero c) (Lv m d)
  go q d c i := match q with | 0 => taskRes_storable m d (coordsV (Fin.cast nCore_zero c) (Fin.cast nSub_zero i)) (Ov m d)
  td q d c i := match q with | 0 => taskRes_storable m d (coordsV (Fin.cast nCore_zero c) (Fin.cast nSub_zero i)) (Lv m d)

/-! ## The tile's obligation -/

/-- A tile's task is the kernel's body at the tile's coordinates. -/
theorem defs₀_vector (c : Fin τ.nSC) (s : Fin τ.nSub) :
    defs₀ (F := F) (.scVector c s) 0 ()
      = SparseCore.onTile hcore0 hsub0 (fun c s => cc0_gather_kernel (F := F) (coordsV c s) tabV (Memref.isWhole_whole _) idxV (Memref.isWhole_whole _) outV
          (Memref.isWhole_whole _) inV (Memref.isWhole_whole _) cc0_scoped1 rowV (Memref.isWhole_whole _) cc0_scoped3 cc0_scoped4) ⟨⟩ c s := rfl

omit [FloatOps F] in
/-- Waits of the tile itself are among those that the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch asks of every tile. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) facts hpre O W hO).trans (wp_mono frame _ _ fun _ => obl_post)

/-- Over the call's tiles is over sixteen, -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- and over the call's cores is over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core deals its resources to its tiles and has them back. -/
theorem vecSplit : (K (F := F)).VecSplit' (P m) 0 := by
  intro d c
  show coreRes m d (Fin.cast nCore_zero c) (Ov m d) ⊢ |={Set.univ}=> iprop(
      (bigSep Finset.univ fun i : Fin ((K (F := F)).nSub 0) => taskRes m d (coordsV (Fin.cast nCore_zero c) (Fin.cast nSub_zero i)) (Ov m d))
      ∗ ((bigSep Finset.univ fun i : Fin ((K (F := F)).nSub 0) => taskRes m d (coordsV (Fin.cast nCore_zero c) (Fin.cast nSub_zero i)) (Lv m d))
          -∗ coreRes m d (Fin.cast nCore_zero c) (Lv m d)))
  rw [bigSep_tasks (F := F) (fun i => taskRes m d (coordsV (Fin.cast nCore_zero c) i) (Ov m d)),
    bigSep_tasks (F := F) (fun i => taskRes m d (coordsV (Fin.cast nCore_zero c) i) (Lv m d)), ← coreRes_eq, ← coreRes_eq]
  iintro H; imodintro
  isplitl [H]; · iexact H
  iintro H; iexact H

/-! ## The launch element of the ghost state -/

def u₀ : UU := (initOf (K (F := F)).hsCells (K (F := F)).hsToks, 1)

omit [FloatOps F] in
/-- Nothing, many times over, is nothing. -/
theorem nothings {I : Type} (s : Finset I) : (bigSep s fun _ => iprop(emp)) = (iprop(emp) : sProp 𝕄) := bigSep_emp_const s

/-- The ghost state at launch is what the handshakes start from; the kernel needs none of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [nothings]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothings]
  iempintro

/-! ## @main on the TensorCore -/

abbrev a0' : DevRef τ sig := Proc.devRef .tc (main_arg0 : Ref sig .tc)
abbrev a1' : DevRef τ sig := Proc.devRef .tc (main_arg1 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev opX : HloOp τ sig (Elt F) := StableHlo.reshape main_arg0 main_v0 (rfl : (.i32 : EltTy) = .i32) shapeCasts_S4096x50_S1x204800
abbrev opR : HloOp τ sig (Elt F) := StableHlo.reshape main_v1 main_v2 (rfl : (.f32 : EltTy) = .f32) shapeCasts_S204800x128_S4096x50x128
abbrev resLoc (d : Dev nD) : Loc nD τ sig := (SparseCore.T d).loc main_v2

/-- The result: the rows looked up, laid out by the indices' shape. -/
def Rv (d : Dev nD) : S4096x50x128.Idx → Elt F .f32 := shapeCast S4096x50x128 (Lv m d) shapeCasts_S204800x128_S4096x50x128

/-- The TensorCore's arrays. -/
abbrev S5 : Finset (DevRef τ sig) := {a0', a1', v0', v1', v2'}

omit [FloatOps F] in
/-- The TensorCore's arrays, one by one, -/
theorem held_S5 (d : Dev nD) (W : Valuation τ sig (Elt F)) :
    (held (T d) S5 W : sProp 𝕄)
      = iprop((argLoc d ↦{fullShare} W a0') ∗ (tabLoc d ↦{fullShare} W a1') ∗ (idxLoc d ↦{fullShare} W v0')
          ∗ (outLoc d ↦{fullShare} W v1') ∗ resLoc d ↦{fullShare} W v2') := by
  unfold held S5
  rw [SparseCore.bigSep_insert' (by decide), SparseCore.bigSep_insert' (by decide), SparseCore.bigSep_insert' (by decide),
    SparseCore.bigSep_insert' (by decide), bigSep_singleton]

omit [FloatOps F] in
/-- which are all that it has; -/
theorem unscopedBufs_eq (d : Dev nD) (W : (b : Ref sig .tc) → Buf (Elt F) ((d.tc : Thread nD τ).loc b)) :
    (unscopedBufs d W : sProp 𝕄)
      = iprop((argLoc d ↦{fullShare} W main_arg0) ∗ (tabLoc d ↦{fullShare} W main_arg1) ∗ (idxLoc d ↦{fullShare} W main_v0)
          ∗ (outLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays' contents: at launch, before the call, after it, at the end. -/
def V0 (d : Dev nD) : Valuation τ sig (Elt F) := fun b => m (d, b)
def V1 (d : Dev nD) : Valuation τ sig (Elt F) := (opX (F := F)).result (V0 m d)
def V2 (d : Dev nD) : Valuation τ sig (Elt F) := Function.update (V1 m d) v1' (Lv m d)
def V3 (d : Dev nD) : Valuation τ sig (Elt F) := (opR (F := F)).result (V2 m d)

omit [FloatOps F] in
/-- at launch they hold what memory does. -/
theorem unscoped_held (d : Dev nD) : (unscopedBufs d (fun b => m ((SparseCore.T d).loc b)) : sProp 𝕄) = held (T d) S5 (V0 m d) := by
  rw [unscopedBufs_eq, held_S5]; rfl

/-- Laying the indices in a row changes no other array, -/
theorem V1_ne (d : Dev nD) {b : DevRef τ sig} (h : b ∉ ({v0'} : Finset (DevRef τ sig))) : V1 m d b = m (d, b) :=
  (opX (F := F)).result_of_not_mem _ h
/-- and leaves them in a row. -/
theorem V1_v0 (d : Dev nD) : V1 m d v0' = Xv m d := by
  unfold V1
  exact (StableHlo.reshape_result _ _ _ _ _ _ _).trans rfl
/-- The call changes no array but its result, -/
theorem V2_ne (d : Dev nD) {b : DevRef τ sig} (h : b ≠ v1') : V2 m d b = V1 m d b := Function.update_of_ne h _ _
/-- which it leaves at the rows looked up. -/
theorem V2_v1 (d : Dev nD) : V2 m d v1' = Lv m d := Function.update_self _ _ _
/-- Laying the result out changes no other array, -/
theorem V3_ne (d : Dev nD) {b : DevRef τ sig} (h : b ∉ ({v2'} : Finset (DevRef τ sig))) : V3 m d b = V2 m d b :=
  (opR (F := F)).result_of_not_mem _ h
/-- and leaves the rows in the indices' shape. -/
theorem V3_v2 (d : Dev nD) : V3 m d v2' = Rv m d := by
  unfold V3
  refine (StableHlo.reshape_result _ _ _ _ _ _ _).trans ?_
  rw [V2_v1]; rfl

/-- The arrays' contents before the call, one by one, -/
theorem held_V1 (d : Dev nD) :
    (held (T d) S5 ((opX (F := F)).result (V0 m d)) : sProp 𝕄)
      = iprop((argLoc d ↦{fullShare} m (argLoc d)) ∗ (tabLoc d ↦{fullShare} Tv m d) ∗ (idxLoc d ↦{fullShare} Xv m d)
          ∗ (outLoc d ↦{fullShare} Ov m d) ∗ resLoc d ↦{fullShare} m (resLoc d)) := by
  show held (SparseCore.T d) S5 (V1 m d) = _
  rw [held_S5, V1_v0, V1_ne m d (b := a0') (by decide), V1_ne m d (b := a1') (by decide), V1_ne m d (b := v1') (by decide), V1_ne m d (b := v2') (by decide)]
/-- after it, -/
theorem held_V2 (d : Dev nD) :
    (held (T d) S5 (V2 m d) : sProp 𝕄)
      = iprop((argLoc d ↦{fullShare} m (argLoc d)) ∗ (tabLoc d ↦{fullShare} Tv m d) ∗ (idxLoc d ↦{fullShare} Xv m d)
          ∗ (outLoc d ↦{fullShare} Lv m d) ∗ resLoc d ↦{fullShare} m (resLoc d)) := by
  rw [held_S5, V2_v1, V2_ne m d (b := a0') (by decide), V2_ne m d (b := a1') (by decide), V2_ne m d (b := v0') (by decide), V2_ne m d (b := v2') (by decide),
    V1_v0, V1_ne m d (b := a0') (by decide), V1_ne m d (b := a1') (by decide), V1_ne m d (b := v2') (by decide)]
/-- and at the end. -/
theorem held_V3 (d : Dev nD) :
    (held (T d) S5 ((opR (F := F)).result (V2 m d)) : sProp 𝕄)
      = iprop((argLoc d ↦{fullShare} m (argLoc d)) ∗ (tabLoc d ↦{fullShare} Tv m d) ∗ (idxLoc d ↦{fullShare} Xv m d)
          ∗ (outLoc d ↦{fullShare} Lv m d) ∗ resLoc d ↦{fullShare} Rv m d) := by
  show held (SparseCore.T d) S5 (V3 m d) = _
  rw [held_S5, V3_v2, V3_ne m d (b := a0') (by decide), V3_ne m d (b := a1') (by decide), V3_ne m d (b := v0') (by decide), V3_ne m d (b := v1') (by decide),
    V2_v1, V2_ne m d (b := a0') (by decide), V2_ne m d (b := a1') (by decide), V2_ne m d (b := v0') (by decide),
    V1_v0, V1_ne m d (b := a0') (by decide), V1_ne m d (b := a1') (by decide)]

/-- What the cores are handed is what the call takes, -/
theorem st0_eq (d : Dev nD) : (bigSep Finset.univ fun c : Fin ((K (F := F)).nCore 0) => (P m).st 0 d c) = callRes m d (Ov m d) :=
  (bigSep_cores (F := F) fun c => coreRes m d c (Ov m d)).trans (callRes_eq m d _).symm
/-- and what they give back is what it returns. -/
theorem dn0_eq (d : Dev nD) : (bigSep Finset.univ fun c : Fin ((K (F := F)).nCore 0) => (P m).dn 0 d c) = callRes m d (Lv m d) :=
  (bigSep_cores (F := F) fun c => coreRes m d c (Lv m d)).trans (callRes_eq m d _).symm

/-- The first reshape touches only these arrays, -/
theorem opX_bufs : (opX (F := F)).bufs ⊆ S5 := show ({a0', v0'} : Finset (DevRef τ sig)) ⊆ S5 by decide
/-- and so does the last. -/
theorem opR_bufs : (opR (F := F)).bufs ⊆ S5 := show ({v1', v2'} : Finset (DevRef τ sig)) ⊆ S5 by decide

/-- What @main leaves the claims: its arguments at their launch contents, the result at the rows looked up. -/
abbrev FIN (d : Dev nD) : sProp 𝕄 :=
  iprop((argLoc d ↦{fullShare} m (argLoc d)) ∗ (tabLoc d ↦{fullShare} m (tabLoc d)) ∗ resLoc d ↦{fullShare} Rv m d)

/-- @main on device `d`'s TensorCore: the indices laid in a row, the call, the result laid out. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S5) opX_bufs (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Ht, Hx, Ho, Hr⟩
  iapply ((K (F := F)).wp_run (D (F := F)) 𝒱 (EH := EH) (P := P m) κ d 0) $$ [Hst Ha Ht Hx Ho Hr Hb Hts]
  isplitr; · iexact Hctx
  isplitl [Hst]; · iexact Hst
  isplitl [Ht Hx Ho]
  · rw [st0_eq]
    unfold callRes
    isplitl [Hx]; · iexact Hx
    isplitl [Ht] <;> iassumption
  iintro ⟨Hst, Hdn⟩
  ihave Hdn' := (Entails.of_eq (dn0_eq m d)) $$ Hdn
  unfold callRes
  icases Hdn' with ⟨Hx, Ht, Ho⟩
  iapply (wp_hlo_within 𝒱 (SparseCore.T d) none Set.univ (op := opR) (S := S5) opR_bufs (V := V2 m d)) $$ [Hb Ha Ht Hx Ho Hr]
  · isplitl [Hb]; · iexact Hb
    rw [held_V2]
    isplitl [Ha]; · iexact Ha
    isplitl [Ht]; · iexact Ht
    isplitl [Hx]; · iexact Hx
    isplitl [Ho] <;> iassumption
  iintro ⟨Hb, Hheld⟩
  ihave Hh := (Entails.of_eq (held_V3 (F := F) m d)) $$ Hheld
  icases Hh with ⟨Ha, Ht, -, -, Hr⟩
  rw [wp_ret]; imodintro; imodintro
  isplitl [Hst]; · iexact Hst
  isplitr [Hb Hts]
  · isplitl [Ha]; · iexact Ha
    isplitl [Ht] <;> iassumption
  isplitl [Hb] <;> iassumption

/-- What the claims read of device `d`'s final state. -/
def fq (d : Dev nD) (s' : Phys nD τ sig (Elt F)) : Prop :=
  s'.mem.mem (resLoc d) = Rv m d ∧ s'.mem.mem (argLoc d) = m (argLoc d) ∧ s'.mem.mem (tabLoc d) = m (tabLoc d)

set_option maxRecDepth 16384 in
/-- What @main leaves says what memory holds in the end. -/
theorem hfin (d : Dev nD) (s' : Phys nD τ sig (Elt F)) : iprop(FIN m d ∗ SI s') ⊢ (⌜fq m d s'⌝ : sProp 𝕄) := by
  iintro ⟨⟨Ha, Ht, Hr⟩, HSI⟩
  ihave H := (persistent_entails_right (SI_pointsTo_agree (st := s') (ℓ := argLoc d) (I := Finset.univ) (q := fullShare) (f := m (argLoc d)))) $$ [HSI Ha]
  · isplitl [HSI] <;> iassumption
  icases H with ⟨%ha, HSI, -⟩
  ihave H := (persistent_entails_right (SI_pointsTo_agree (st := s') (ℓ := tabLoc d) (I := Finset.univ) (q := fullShare) (f := m (tabLoc d)))) $$ [HSI Ht]
  · isplitl [HSI] <;> iassumption
  icases H with ⟨%ht, HSI, -⟩
  ihave H := (SI_pointsTo_agree (st := s') (ℓ := resLoc d) (I := Finset.univ) (q := fullShare) (f := Rv m d)) $$ [HSI Hr]
  · isplitl [HSI] <;> iassumption
  icases H with %hr
  ipureintro
  exact ⟨funext fun i => hr i (Finset.mem_univ i), funext fun i => ha i (Finset.mem_univ i), funext fun i => ht i (Finset.mem_univ i)⟩

/-! ## The program's run -/

def QC : PUnit × MemSt nD τ sig (Elt F) → Prop := fun r =>
  (∀ c : Dev nD, r.2.mem (resLoc c) = Rv m c ∧ r.2.mem (argLoc c) = m (argLoc c) ∧ r.2.mem (tabLoc c) = m (tabLoc c)) ∧ r.2.sem = fun _ => 0

/-- The whole program, over any scalars: from indices in range, the result is the rows looked up, the arguments are unchanged, every semaphore at rest. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Hand
-- ==== Proof.Ref.lean ====
/-
  The reference's value: jax's lookup wraps a negative index, looks it up, and masks what is out of range; of an index in
  range that leaves the row it names. The kernel's value is the same array.
-/
module

public import proofs.«01_k».proof.Defs
public import proofs.«01_k».proof.Proof.Launch
public import proofs.«01_k».proof.Proof.Gen.ReferenceIdeal.Run
public import proofs.«01_k».proof.Proof.Gen.Kernel
public import proofs.«01_k».proof.Proof.Gen.Reference
public import proofs.«01_k».proof.Proof.Gen.Pre_in_range
public import Idealize.ShloMosaic.Lib.ReduceAll
public import Idealize.ShloMosaic.Lib.WordCmp
public import Idealize.ShloMosaic.Lib.Pipeline.Value

@[expose] public section

noncomputable section

namespace Cert.ReferenceIdeal.Hand

open Cert.ReferenceIdeal Cert.ReferenceIdeal.Gen
open Idealize.ShloMosaic
open Cert.KernelIdeal.Hand (tabRow tabRow_val)

variable {F : FTy → Type} [FloatOps F]

/-- The rows of the table that the indices name. -/
def taken (X : IVec S4096x50 32) (T : FVec F S100000x128 .f32) : FVec F S4096x50x128 .f32 := fun y =>
  T (Shape.pair (d := ![100000, 128]) (tabRow (X (Shape.pair (d := ![4096, 50]) (y 0) (y 1)))) (y 2))

/-- A negative index counts from the table's end. -/
def wrapped (X : IVec S4096x50 32) : IVec S4096x50 32 :=
  select (cmpi .slt X (broadcastInDim S4096x50 ![] bcast_S_S4096x50 (constantI S_ 32 0#32)))
    (addi X (broadcastInDim S4096x50 ![] bcast_S_S4096x50 (constantI S_ 32 100000#32))) X

/-- What the reference computes. -/
def refValue (X : IVec S4096x50 32) (T : FVec F S100000x128 .f32) : FVec F S4096x50x128 .f32 :=
  select (broadcastInDim S4096x50x128 ![0, 1] bcast_S4096x50_S4096x50x128_0_1 (Host.reduce IntOp.andi (andi (cmpi .sge (broadcastInDim S4096x50x1 ![0, 1] bcast_S4096x50_S4096x50x1_0_1 (wrapped X)) (broadcastInDim S4096x50x1 ![] bcast_S_S4096x50x1 (constantI S_ 32 0#32))) (cmpi .sle (broadcastInDim S4096x50x1 ![0, 1] bcast_S4096x50_S4096x50x1_0_1 (wrapped X)) (broadcastInDim S4096x50x1 ![0, 1, 2] bcast_S1x1x1_S4096x50x1_0_1_2 (broadcastInDim S1x1x1 ![2] bcast_S1_S1x1x1_2 (constantI S1 32 99999#32))))) (constantI S_ 1 1#1) reducesTo_S4096x50x1_S4096x50_d2 h_S_)) (Host.gather gather_S100000x128_S4096x50x1_S4096x50x128_2_0_n_n_0_2_1128 T (broadcastInDim S4096x50x1 ![0, 1] bcast_S4096x50_S4096x50x1_0_1 (wrapped X))) (broadcastInDim S4096x50x128 ![] bcast_S_S4096x50x128 (constant S_ .f32 0x7FC00000#32))

omit [FloatOps F] in
/-- No index in range is negative. -/
theorem wrapped_eq (X : IVec S4096x50 32) (hX : ∀ j, (X j).toNat < 100000) : wrapped X = X := by
  funext j
  have h := hX j
  show Scalar.select (IntOp.cmpi .slt (X j) 0#32) _ (X j) = X j
  exact WordCmp.select_of_eq_zero (by word_cmp) _ _

omit [FloatOps F] in
/-- The gather, read at an index: the row of the table that the index names. -/
theorem gather_row (X : IVec S4096x50 32) (hX : ∀ j, (X j).toNat < 100000) (T : FVec F S100000x128 .f32) (y : S4096x50x128.Idx) :
    Host.gather gather_S100000x128_S4096x50x1_S4096x50x128_2_0_n_n_0_2_1128 T (broadcastInDim S4096x50x1 ![0, 1] bcast_S4096x50_S4096x50x1_0_1 X) y = taken X T y := by
  unfold Host.gather taken
  refine congrArg T (funext fun a => Fin.ext ?_)
  have hd : gather_S100000x128_S4096x50x1_S4096x50x128_2_0_n_n_0_2_1128.batchCoord y a = 0 := GatherDims.batchCoord_eq_zero _ _ _ List.not_mem_nil
  show gather_S100000x128_S4096x50x1_S4096x50x128_2_0_n_n_0_2_1128.start y _ a + gather_S100000x128_S4096x50x1_S4096x50x128_2_0_n_n_0_2_1128.batchCoord y a
    + gather_S100000x128_S4096x50x1_S4096x50x128_2_0_n_n_0_2_1128.offCoord y a = _
  rw [hd]
  have h01 : a = 0 ∨ a = 1 := by
    match a with
    | ⟨0, _⟩ => exact .inl rfl
    | ⟨1, _⟩ => exact .inr rfl
  rcases h01 with rfl | rfl
  · rw [show gather_S100000x128_S4096x50x1_S4096x50x128_2_0_n_n_0_2_1128.offCoord y (0 : Fin S100000x128.rank) = 0 from
      GatherDims.offCoord_eq_zero _ _ _ (fun h => ((GatherDims.mem_sKept _ _).mp h).1 (List.mem_singleton.mpr rfl))]
    unfold GatherDims.start
    rw [dif_pos (show (0 : Fin S100000x128.rank) ∈ gather_S100000x128_S4096x50x1_S4096x50x128_2_0_n_n_0_2_1128.startIndexMap from List.mem_singleton.mpr rfl)]
    have h := hX (Shape.pair (d := ![4096, 50]) (y 0) (y 1))
    have hb : ∀ z : S4096x50x1.Idx, (z 0).val = (y 0).val → (z 1).val = (y 1).val →
        broadcastInDim S4096x50x1 ![0, 1] bcast_S4096x50_S4096x50x1_0_1 X z = X (Shape.pair (d := ![4096, 50]) (y 0) (y 1)) := fun z z0 z1 =>
      broadcastInDim_apply (![0, 1] : Fin 2 → Fin 3) bcast_S4096x50_S4096x50x1_0_1 X z (Shape.pair (d := ![4096, 50]) (y 0) (y 1)) (fun b => by
        match b with
        | ⟨0, _⟩ => exact z0.symm
        | ⟨1, _⟩ => exact z1.symm)
    have e := tabRow_val h
    refine (congrArg (fun v : BitVec 32 => min v.toInt.toNat (100000 - 1) + 0 + 0) (hb _ rfl rfl)).trans ?_
    show min (BitVec.toInt _).toNat (100000 - 1) + 0 + 0 = (tabRow _).val
    rw [e, WordCmp.toInt_eq_toNat_of_lt_half (lt_trans h (by decide)), Int.toNat_natCast]
    omega
  · unfold GatherDims.start GatherDims.offCoord
    rw [dif_neg (show ¬ (1 : Fin S100000x128.rank) ∈ gather_S100000x128_S4096x50x1_S4096x50x128_2_0_n_n_0_2_1128.startIndexMap from by decide),
      dif_pos (show (1 : Fin S100000x128.rank) ∈ gather_S100000x128_S4096x50x1_S4096x50x128_2_0_n_n_0_2_1128.sKept from by decide)]
    show 0 + 0 + (y 2).val = (y 2).val
    omega

/-- Of indices in range the reference takes the rows they name. -/
theorem refValue_eq (X : IVec S4096x50 32) (hX : ∀ j, (X j).toNat < 100000) (T : FVec F S100000x128 .f32) : refValue X T = taken X T := by
  unfold refValue
  rw [wrapped_eq X hX]
  funext y
  rw [← gather_row X hX T y]
  refine WordCmp.select_of_eq_one ?_ _ _
  refine Host.reduce_andi_one _ _ _ _ _ rfl fun i => ?_
  have key : ∀ v : BitVec 32, v.toNat < 100000 → IntOp.andi (IntOp.cmpi .sge v 0#32) (IntOp.cmpi .sle v 99999#32) = 1#1 := by
    intro v h
    have h1 : IntOp.cmpi .sge v 0#32 = 1#1 := by word_cmp
    have h2 : IntOp.cmpi .sle v 99999#32 = 1#1 := by word_cmp
    rw [h1, h2]; rfl
  exact key _ (hX _)

end Cert.ReferenceIdeal.Hand

namespace Cert.KernelIdeal.Hand

open Cert.KernelIdeal Cert.KernelIdeal.Gen
open Idealize.ShloMosaic

variable {F : FTy → Type} [FloatOps F]

omit [FloatOps F] in
/-- The kernel's result is the rows the indices name. -/
theorem Rv_eq (m : (ℓ : Loc nD τ sig) → Buf (Elt F) ℓ) (d : Dev nD) : Rv m d = Cert.ReferenceIdeal.Hand.taken (F := F) (m (argLoc d)) (m (tabLoc d)) := by
  funext y
  have h0 : (y 0).val < 4096 := (y 0).isLt
  have h1 : (y 1).val < 50 := (y 1).isLt
  have h2 : (y 2).val < 128 := (y 2).isLt
  have hr : (y 0).val * 50 + (y 1).val < 204800 := by omega
  unfold Rv
  rw [shapeCast_apply _ shapeCasts_S204800x128_S4096x50x128 y (Shape.pair (d := ![204800, 128]) (⟨(y 0).val * 50 + (y 1).val, hr⟩ : Fin 204800) (y 2))
    ((Shape.rowMajor_pair_val (d := ![204800, 128]) _ _).trans (Shape.rowMajor_val_three (d := ![4096, 50, 128]) y).symm)]
  have e : Xv m d (Shape.pair (d := ![1, 204800]) (0 : Fin 1) (⟨(y 0).val * 50 + (y 1).val, hr⟩ : Fin 204800))
      = (m (argLoc d) : S4096x50.Idx → Elt F .i32) (Shape.pair (d := ![4096, 50]) (y 0) (y 1)) := by
    unfold Xv
    refine shapeCast_apply _ shapeCasts_S4096x50_S1x204800 _ _ ?_
    refine (Shape.rowMajor_pair_val (d := ![4096, 50]) _ _).trans (Eq.trans ?_ (Shape.rowMajor_pair_val (d := ![1, 204800]) _ _).symm)
    show (y 0).val * 50 + (y 1).val = 0 * 204800 + ((y 0).val * 50 + (y 1).val)
    omega
  unfold Lv lookup Cert.ReferenceIdeal.Hand.taken
  rw [← e]
  rfl

end Cert.KernelIdeal.Hand

namespace Cert.Proof

open Idealize.ShloMosaic Idealize.SL.Sem

/-- The precondition puts every index in the table's range. -/
theorem in_range_lt {F : FTy → Type} [FloatOps F] (X : IVec Cert.Pre_in_range.S4096x50 32) (T : FVec F Cert.Pre_in_range.S100000x128 .f32)
    (h : Cert.Pre_in_range.fn X T = fun _ => 1#1) (j : Cert.Pre_in_range.S4096x50.Idx) : (X j).toNat < 100000 := by
  have hs : Subsingleton Cert.Pre_in_range.S_.Idx := ⟨fun a b => funext fun k => k.elim0⟩
  have e := Host.reduce_andi_all _ _ _ _ (fun k => k.elim0) (congrFun h fun k => k.elim0) j
  have key : ∀ v : BitVec 32, IntOp.andi (IntOp.cmpi .sge v 0#32) (IntOp.cmpi .slt v 100000#32) = 1#1 → v.toNat < 100000 := by
    intro v; word_cmp
  exact key _ e

end Cert.Proof
-- ==== Proof.lean ====
/-
  The proof of `Cert.Claim` (proofs.«01_k».proof.Defs): the kernel's one run, over any scalars, read at the machine's words
  and at the extended reals, beside the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Pre_in_range
public import proofs.«01_k».proof.Proof.Ref

@[expose] public section

noncomputable section

namespace Cert.Proof

open Idealize.ShloMosaic Idealize.SL.Sem
open Cert.KernelIdeal.Hand (run_main PreOK Rv Rv_eq argLoc tabLoc)
open Cert.ReferenceIdeal.Hand (taken refValue refValue_eq)

/-- The precondition of either instance is what the run asks of the launch memory. -/
theorem ok_ideal (m : (ℓ : Loc Cert.KernelIdeal.nD Cert.KernelIdeal.τ Cert.KernelIdeal.sig) → Buf (Elt Ideal) ℓ) (h : Cert.Pre_KernelIdeal m) :
    PreOK (F := Ideal) m := fun d j => in_range_lt (F := Ideal) _ _ (h d) j
/-- The same of the machine's words. -/
theorem ok_bits (m : (ℓ : Loc Cert.Kernel.nD Cert.Kernel.τ Cert.Kernel.sig) → Buf (Elt Bits) ℓ) (h : Cert.Pre_Kernel m) :
    PreOK (F := Bits) m := fun d j => in_range_lt (F := Bits) _ _ (h d) j

/-- Frame of the kernel: it runs, faults nowhere, leaves its arguments as they were and every semaphore at rest. -/
theorem frame_kernel : Cert.quiescent_Kernel := fun m g h =>
  (θ_run Cert.KernelIdeal.defs _ _).mono (fun _ r => ⟨fun c => (r.1 c).2, r.2⟩) (run_main (F := Bits) m g (ok_bits m h))

/-- Frame of the kernel over the extended reals. -/
theorem frame_kernelIdeal : Cert.quiescent_KernelIdeal := fun m g h =>
  (θ_run Cert.KernelIdeal.defs _ _).mono (fun _ r => ⟨fun c => (r.1 c).2, r.2⟩) (run_main (F := Ideal) m g (ok_ideal m h))

/-- The reference's run, over any scalars: its frame, -/
theorem frame_ref {F : FTy → Type} [FloatOps F] (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0 :=
  (θ_run Cert.ReferenceIdeal.defs _ _).mono (fun r h => ⟨fun c => (h c).2, sem_eq_zero_of_no_sems (by decide) r.2⟩)
    (Cert.ReferenceIdeal.Value.run (F := F) m g)

/-- and, its arguments those of a kernel's launch in range, its result: the kernel's. -/
theorem value_ref {F : FTy → Type} [FloatOps F] (m : (ℓ : Loc Cert.KernelIdeal.nD Cert.KernelIdeal.τ Cert.KernelIdeal.sig) → Buf (Elt F) ℓ) (hm : PreOK m)
    (m' : (ℓ : Loc Cert.ReferenceIdeal.nD Cert.ReferenceIdeal.τ Cert.ReferenceIdeal.sig) → Buf (Elt F) ℓ) (g : Dev Cert.ReferenceIdeal.nD → PrngReg)
    (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.ReferenceIdeal.defs (F := F)) (onTc (τ := Cert.ReferenceIdeal.τ) (Cert.ReferenceIdeal.main (F := F))) ⟨m', fun _ => 0, g⟩ fun r =>
      ∀ c : Dev Cert.ReferenceIdeal.nD,
        r.2.mem ((c.tc : Thread Cert.ReferenceIdeal.nD Cert.ReferenceIdeal.τ).loc Cert.ReferenceIdeal.main_v0) = Rv m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1) := by
  refine (θ_run Cert.ReferenceIdeal.defs _ _).mono (fun r hr c => ⟨?_, (hr c).2⟩) (Cert.ReferenceIdeal.Value.run (F := F) m' g)
  refine (hr c).1.trans ?_
  have e : refValue (F := F) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) = Rv m c := by
    rw [(h c).1, (h c).2, Rv_eq]
    exact refValue_eq _ (hm c) _
  exact e

/-- Frame of the reference over the extended reals, -/
theorem frame_referenceIdeal : Cert.quiescent_ReferenceIdeal := fun m g _ => frame_ref (F := Ideal) m g
/-- under the kernel's precondition too, -/
theorem frame_referenceIdeal_in_range : Cert.quiescent_ReferenceIdeal_pre_in_range := fun m g _ => frame_ref (F := Ideal) m g
/-- and over the machine's words. -/
theorem frame_reference : Cert.quiescent_Reference := fun m g _ => frame_ref (F := Bits) m g

/-- Over the extended reals the kernel and the reference end with the same result. -/
theorem algebraic : Cert.algebraic_KernelIdeal_ReferenceIdeal := fun m g m' g' hpre h =>
  ⟨fun c => Rv m c, (θ_run Cert.KernelIdeal.defs _ _).mono (fun _ r c => r.1 c) (run_main (F := Ideal) m g (ok_ideal m hpre)),
    value_ref (F := Ideal) m (ok_ideal m hpre) m' g' h⟩

/-- So do they over the machine's words, bit for bit. -/
theorem bitexact : Cert.bitexact_Kernel_Reference := fun m g m' g' hpre h =>
  ⟨fun c => Rv (F := Bits) m c, (θ_run Cert.KernelIdeal.defs _ _).mono (fun _ r c => r.1 c) (run_main (F := Bits) m g (ok_bits m hpre)),
    value_ref (F := Bits) m (ok_bits m hpre) m' g' h⟩

/-- Every claim. -/
theorem claim : Cert.Claim :=
  ⟨Cert.Kernel.Gen.facts, Cert.KernelIdeal.Gen.facts, Cert.ReferenceIdeal.Gen.facts, Cert.Reference.Gen.facts, Cert.Pre_in_range.Gen.facts,
    frame_kernel, frame_kernelIdeal, frame_referenceIdeal, frame_referenceIdeal_in_range, frame_reference, trivial, algebraic, bitexact⟩

end Cert.Proof
